-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v12)) (v2 : (c : Dev Cert.KernelIdeal.nD) → Buf (Elt Ideal) ((c.tc : Thread Cert.KernelIdeal.nD Cert.KernelIdeal.τ).loc Cert.KernelIdeal.main_v11)) (v3 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_v11) = v2 c
          ∧ r.2.mem ((c.tc : Thread Cert.KernelIdeal.nD Cert.KernelIdeal.τ).loc Cert.KernelIdeal.main_v13) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_v16) = v2 c
          ∧ r.2.mem ((c.tc : Thread Cert.ReferenceIdeal.nD Cert.ReferenceIdeal.τ).loc Cert.ReferenceIdeal.main_v42) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x256x8x32x32 : Shape := ⟨5, ![4, 256, 8, 32, 32]⟩
abbrev S1024x256 : Shape := ⟨2, ![1024, 256]⟩
abbrev S_ : Shape := ⟨0, ![]⟩

class Facts : Prop where
  bcast_S_S4x256x8x32x32 : S_.BroadcastsInDim S4x256x8x32x32 (![] : Fin 0 → Fin S4x256x8x32x32.rank)
  reducesTo_S4x256x8x32x32_S_d0_1_2_3_4 : S4x256x8x32x32.ReducesTo [0, 1, 2, 3, 4] S_
  h_S_ : 0 < S_.numel
  bcast_S_S1024x256 : S_.BroadcastsInDim S1024x256 (![] : Fin 0 → Fin S1024x256.rank)
  reducesTo_S1024x256_S_d0_1 : S1024x256.ReducesTo [0, 1] S_

variable [Facts]

def fn {F : FTy → Type} [FloatOps F] (main_arg0 : FVec F S4x256x8x32x32 .f32) (main_arg1 : FVec F S1024x256 .f32) : IVec S_ 1 :=
  let main_v0 : FVec F S4x256x8x32x32 .f32 := Host.absf main_arg0
  let main_cst : FVec F S_ .f32 := constant S_ .f32 0x7F800000#32
  let main_v1 : FVec F S4x256x8x32x32 .f32 := broadcastInDim S4x256x8x32x32 ![] bcast_S_S4x256x8x32x32 main_cst
  let main_v2 : IVec S4x256x8x32x32 1 := cmpf .olt main_v0 main_v1
  let main_c : IVec S_ 1 := constantI S_ 1 1#1
  let main_v3 : IVec S_ 1 := (fun x v => Host.reduce IntOp.andi x v reducesTo_S4x256x8x32x32_S_d0_1_2_3_4 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  main_v8
-- ==== Kernel.lean ====
abbrev S4x256x8x32x32 : Shape := ⟨5, ![4, 256, 8, 32, 32]⟩
abbrev S1024x256 : Shape := ⟨2, ![1024, 256]⟩
abbrev S4x8x32x32x256 : Shape := ⟨5, ![4, 8, 32, 32, 256]⟩
abbrev S32768x256 : Shape := ⟨2, ![32768, 256]⟩
abbrev S_ : Shape := ⟨0, ![]⟩
abbrev S1024 : Shape := ⟨1, ![1024]⟩
abbrev S1x1024 : Shape := ⟨2, ![1, 1024]⟩
abbrev S256x1024 : Shape := ⟨2, ![256, 1024]⟩
abbrev S32768x1 : Shape := ⟨2, ![32768, 1]⟩
abbrev S1x1 : Shape := ⟨2, ![1, 1]⟩
abbrev S8192x256 : Shape := ⟨2, ![8192, 256]⟩
abbrev S8192x1 : Shape := ⟨2, ![8192, 1]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S1x512x256 : Shape := ⟨3, ![1, 512, 256]⟩
abbrev S1 : Shape := ⟨1, ![1]⟩
abbrev S1x1x1 : Shape := ⟨3, ![1, 1, 1]⟩
abbrev S1x1x1024 : Shape := ⟨3, ![1, 1, 1024]⟩
abbrev S32768 : Shape := ⟨1, ![32768]⟩

abbrev nBuf : Space → Nat
  | .hbm => 21
  | .vmem => 12
  | .smem => 1
  | _ => 0

abbrev bufTy : (tb : Table) → Fin (tcTables nBuf tb) → BufTy
  | .hbm, ⟨0, _⟩ => ⟨S4x256x8x32x32, .f32⟩
  | .hbm, ⟨1, _⟩ => ⟨S1024x256, .f32⟩
  | .hbm, ⟨2, _⟩ => ⟨S4x8x32x32x256, .f32⟩
  | .hbm, ⟨3, _⟩ => ⟨S32768x256, .f32⟩
  | .hbm, ⟨4, _⟩ => ⟨S1024x256, .f32⟩
  | .hbm, ⟨5, _⟩ => ⟨S_, .f32⟩
  | .hbm, ⟨6, _⟩ => ⟨S1024, .f32⟩
  | .hbm, ⟨7, _⟩ => ⟨S1x1024, .f32⟩
  | .hbm, ⟨8, _⟩ => ⟨S256x1024, .f32⟩
  | .hbm, ⟨9, _⟩ => ⟨S_, .f32⟩
  | .hbm, ⟨10, _⟩ => ⟨S256x1024, .f32⟩
  | .hbm, ⟨11, _⟩ => ⟨S256x1024, .f32⟩
  | .hbm, ⟨12, _⟩ => ⟨S32768x256, .f32⟩
  | .hbm, ⟨13, _⟩ => ⟨S32768x1, .i32⟩
  | .hbm, ⟨14, _⟩ => ⟨S1x1, .f32⟩
  | .hbm, ⟨15, _⟩ => ⟨S1x1, .f32⟩
  | .hbm, ⟨16, _⟩ => ⟨S4x8x32x32x256, .f32⟩
  | .hbm, ⟨17, _⟩ => ⟨S4x256x8x32x32, .f32⟩
  | .hbm, ⟨18, _⟩ => ⟨S32768, .i32⟩
  | .hbm, ⟨19, _⟩ => ⟨S_, .f32⟩
  | .hbm, ⟨20, _⟩ => ⟨S_, .f32⟩
  | .local _ .vmem, ⟨0, _⟩ => ⟨S1x1024, .f32⟩
  | .local _ .vmem, ⟨1, _⟩ => ⟨S256x1024, .f32⟩
  | .local _ .vmem, ⟨2, _⟩ => ⟨S1024x256, .f32⟩
  | .local _ .vmem, ⟨3, _⟩ => ⟨S8192x256, .f32⟩
  | .local _ .vmem, ⟨4, _⟩ => ⟨S8192x256, .f32⟩
  | .local _ .vmem, ⟨5, _⟩ => ⟨S8192x256, .f32⟩
  | .local _ .vmem, ⟨6, _⟩ => ⟨S8192x256, .f32⟩
  | .local _ .vmem, ⟨7, _⟩ => ⟨S8192x1, .i32⟩
  | .local _ .vmem, ⟨8, _⟩ => ⟨S8192x1, .i32⟩
  | .local _ .vmem, ⟨9, _⟩ => ⟨S1x1, .f32⟩
  | .local _ .vmem, ⟨10, _⟩ => ⟨S1x1, .f32⟩
  | .local _ .vmem, ⟨11, _⟩ => ⟨S1x1024, .f32⟩
  | .local _ .smem, ⟨0, _⟩ => ⟨S1x1, .f32⟩
  | _, _ => ⟨S4x256x8x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_v8_2 : Ref sig .tc := ⟨.hbm, 14, rfl⟩
abbrev main_v8_3 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_scratch1 : Ref sig .tc := ⟨.vmem, 11, rfl⟩
abbrev cc0_scratch0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v1 : BitVec 1 := Scalar.cmpi .eq arg0 c3_i32
  let v667 : BitVec 32 := Scalar.extui v1
  let c0_i32_311 : BitVec 32 := 0#32
  let v668 : BitVec 1 := Scalar.cmpi .ne v667 c0_i32_311
  v668

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8192x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8192x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8192x1 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S4x256x8x32x32 : Shape := ⟨5, ![4, 256, 8, 32, 32]⟩
abbrev S1024x256 : Shape := ⟨2, ![1024, 256]⟩
abbrev S4x8x32x32x256 : Shape := ⟨5, ![4, 8, 32, 32, 256]⟩
abbrev S32768x256 : Shape := ⟨2, ![32768, 256]⟩
abbrev S_ : Shape := ⟨0, ![]⟩
abbrev S32768 : Shape := ⟨1, ![32768]⟩
abbrev S32768x1 : Shape := ⟨2, ![32768, 1]⟩
abbrev S1024 : Shape := ⟨1, ![1024]⟩
abbrev S1x1024 : Shape := ⟨2, ![1, 1024]⟩
abbrev S32768x1024 : Shape := ⟨2, ![32768, 1024]⟩
abbrev S256x1024 : Shape := ⟨2, ![256, 1024]⟩
abbrev S1 : Shape := ⟨1, ![1]⟩
abbrev S1x1 : Shape := ⟨2, ![1, 1]⟩

abbrev nBuf : Space → Nat
  | .hbm => 88
  | .vmem => 0
  | .smem => 0
  | _ => 0

abbrev bufTy : (tb : Table) → Fin (tcTables nBuf tb) → BufTy
  | .hbm, ⟨0, _⟩ => ⟨S4x256x8x32x32, .f32⟩
  | .hbm, ⟨1, _⟩ => ⟨S1024x256, .f32⟩
  | .hbm, ⟨2, _⟩ => ⟨S4x8x32x32x256, .f32⟩
  | .hbm, ⟨3, _⟩ => ⟨S32768x256, .f32⟩
  | .hbm, ⟨4, _⟩ => ⟨S32768x256, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S1024x256, .f32⟩
  | .hbm, ⟨9, _⟩ => ⟨S_, .f32⟩
  | .hbm, ⟨10, _⟩ => ⟨S1024, .f32⟩
  | .hbm, ⟨11, _⟩ => ⟨S1x1024, .f32⟩
  | .hbm, ⟨12, _⟩ => ⟨S32768x1024, .f32⟩
  | .hbm, ⟨13, _⟩ => ⟨S32768x1024, .f32⟩
  | .hbm, ⟨14, _⟩ => ⟨S32768x1024, .f32⟩
  | .hbm, ⟨15, _⟩ => ⟨S256x1024, .f32⟩
  | .hbm, ⟨16, _⟩ => ⟨S32768x1024, .f32⟩
  | .hbm, ⟨17, _⟩ => ⟨S_, .f32⟩
  | .hbm, ⟨18, _⟩ => ⟨S32768x1024, .f32⟩
  | .hbm, ⟨19, _⟩ => ⟨S32768x1024, .f32⟩
  | .hbm, ⟨20, _⟩ => ⟨S32768x1024, .f32⟩
  | .hbm, ⟨21, _⟩ => ⟨S32768x1024, .i32⟩
  | .hbm, ⟨22, _⟩ => ⟨S_, .f32⟩
  | .hbm, ⟨23, _⟩ => ⟨S_, .i32⟩
  | .hbm, ⟨24, _⟩ => ⟨S32768, .f32⟩
  | .hbm, ⟨25, _⟩ => ⟨S32768, .i32⟩
  | .hbm, ⟨26, _⟩ => ⟨S_, .i32⟩
  | .hbm, ⟨27, _⟩ => ⟨S32768, .i32⟩
  | .hbm, ⟨28, _⟩ => ⟨S32768, .i1⟩
  | .hbm, ⟨29, _⟩ => ⟨S_, .i32⟩
  | .hbm, ⟨30, _⟩ => ⟨S32768, .i32⟩
  | .hbm, ⟨31, _⟩ => ⟨S32768, .i32⟩
  | .hbm, ⟨32, _⟩ => ⟨S32768, .i32⟩
  | .hbm, ⟨33, _⟩ => ⟨S32768x1, .i32⟩
  | .hbm, ⟨34, _⟩ => ⟨S1, .i32⟩
  | .hbm, ⟨35, _⟩ => ⟨S_, .i32⟩
  | .hbm, ⟨36, _⟩ => ⟨S32768x1, .i32⟩
  | .hbm, ⟨37, _⟩ => ⟨S32768x1, .i1⟩
  | .hbm, ⟨38, _⟩ => ⟨S1x1, .i32⟩
  | .hbm, ⟨39, _⟩ => ⟨S32768x1, .i32⟩
  | .hbm, ⟨40, _⟩ => ⟨S32768x1, .i1⟩
  | .hbm, ⟨41, _⟩ => ⟨S32768x1, .i1⟩
  | .hbm, ⟨42, _⟩ => ⟨S_, .i1⟩
  | .hbm, ⟨43, _⟩ => ⟨S32768, .i1⟩
  | .hbm, ⟨44, _⟩ => ⟨S32768x256, .f32⟩
  | .hbm, ⟨45, _⟩ => ⟨S32768x256, .i1⟩
  | .hbm, ⟨46, _⟩ => ⟨S_, .f32⟩
  | .hbm, ⟨47, _⟩ => ⟨S32768x256, .f32⟩
  | .hbm, ⟨48, _⟩ => ⟨S32768x256, .f32⟩
  | .hbm, ⟨49, _⟩ => ⟨S4x8x32x32x256, .f32⟩
  | .hbm, ⟨50, _⟩ => ⟨S4x256x8x32x32, .f32⟩
  | .hbm, ⟨51, _⟩ => ⟨S4x256x8x32x32, .f32⟩
  | .hbm, ⟨52, _⟩ => ⟨S4x256x8x32x32, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S4x256x8x32x32, .f32⟩
  | .hbm, ⟨58, _⟩ => ⟨S4x256x8x32x32, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S4x256x8x32x32, .f32⟩
  | .hbm, ⟨67, _⟩ => ⟨S4x256x8x32x32, .f32⟩
  | .hbm, ⟨68, _⟩ => ⟨S32768x1, .i32⟩
  | .hbm, ⟨69, _⟩ => ⟨S1x1024, .i32⟩
  | .hbm, ⟨70, _⟩ => ⟨S32768x1024, .i32⟩
  | .hbm, ⟨71, _⟩ => ⟨S32768x1024, .i32⟩
  | .hbm, ⟨72, _⟩ => ⟨S32768x1024, .i1⟩
  | .hbm, ⟨73, _⟩ => ⟨S32768x1024, .f32⟩
  | .hbm, ⟨74, _⟩ => ⟨S_, .f32⟩
  | .hbm, ⟨75, _⟩ => ⟨S1024, .f32⟩
  | .hbm, ⟨76, _⟩ => ⟨S_, .f32⟩
  | .hbm, ⟨77, _⟩ => ⟨S1024, .f32⟩
  | .hbm, ⟨78, _⟩ => ⟨S1024, .f32⟩
  | .hbm, ⟨79, _⟩ => ⟨S_, .f32⟩
  | .hbm, ⟨80, _⟩ => ⟨S1024, .f32⟩
  | .hbm, ⟨81, _⟩ => ⟨S1024, .f32⟩
  | .hbm, ⟨82, _⟩ => ⟨S1024, .f32⟩
  | .hbm, ⟨83, _⟩ => ⟨S1024, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | _, _ => ⟨S4x256x8x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_cst : Ref sig .tc := ⟨.hbm, 22, rfl⟩
abbrev main_call0_c : Ref sig .tc := ⟨.hbm, 23, rfl⟩
abbrev main_call0_v1_0 : Ref sig .tc := ⟨.hbm, 24, rfl⟩
abbrev main_v16 : Ref sig .tc := ⟨.hbm, 25, rfl⟩
abbrev main_call1_c : Ref sig .tc := ⟨.hbm, 26, rfl⟩
abbrev main_call1_v0 : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_c_1 : Ref sig .tc := ⟨.hbm, 34, rfl⟩
abbrev main_call1_c_2 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_3 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_call1_cst : Ref sig .tc := ⟨.hbm, 46, rfl⟩
abbrev main_call1_v15 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_cst_2 : Ref sig .tc := ⟨.hbm, 53, rfl⟩
abbrev main_v22 : Ref sig .tc := ⟨.hbm, 54, rfl⟩
abbrev main_cst_3 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_cst_4 : Ref sig .tc := ⟨.hbm, 59, rfl⟩
abbrev main_v26 : Ref sig .tc := ⟨.hbm, 60, rfl⟩
abbrev main_cst_5 : Ref sig .tc := ⟨.hbm, 61, rfl⟩
abbrev main_v27 : Ref sig .tc := ⟨.hbm, 62, rfl⟩
abbrev main_cst_6 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_call2_v0 : Ref sig .tc := ⟨.hbm, 68, rfl⟩
abbrev main_call2_v1 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_v32 : Ref sig .tc := ⟨.hbm, 73, rfl⟩
abbrev main_cst_7 : Ref sig .tc := ⟨.hbm, 74, rfl⟩
abbrev main_v33 : Ref sig .tc := ⟨.hbm, 75, rfl⟩
abbrev main_cst_8 : Ref sig .tc := ⟨.hbm, 76, rfl⟩
abbrev main_v34 : Ref sig .tc := ⟨.hbm, 77, rfl⟩
abbrev main_v35 : Ref sig .tc := ⟨.hbm, 78, rfl⟩
abbrev main_cst_9 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_cst_10 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩

abbrev nD : Nat := 1
abbrev τ : Topo := Topo.v7x

variable {F : FTy → Type} [FloatOps F]
-- ==== Proof.KBody.lean ====
/-
  What one grid point computes. The body cuts its 8192 rows into sixteen groups of 512 and does the same to each: the index of
  the nearest code, the row's code through the one-hot matrix, the sum of the squared differences, the counts of the codes. Here
  the groups' common functions are named once (they are the payloads of the first group), the stores of the two array outputs
  are the sixteen groups' results through one list, and the two carried scratch buffers get the groups' results added up.
-/
module

public import proofs.«01_k».proof.Proof.Gen.KernelIdeal.Frame
public import Idealize.ShloMosaic.Lib.Pipeline.Value

@[expose] public section

set_option maxRecDepth 16384

noncomputable section

namespace Cert.Proof.KBody

open Cert.KernelIdeal Cert.KernelIdeal.Gen Idealize.ShloMosaic Idealize.ShloMosaic.TcCoe Idealize.ShloMosaic.Tactic Idealize.SL.Sem

variable {F : FTy → Type} [FloatOps F]

/-! ## One group of 512 rows -/

/-- The groups in the order the body's stores are listed: the last first. -/
def groups : List (Fin 16) := [15, 14, 13, 12, 11, 10, 9, 8, 7, 6, 5, 4, 3, 2, 1, 0]

/-- Group `h`'s rows of a 256-wide block lie in the block. -/
theorem inbRow (h : Fin 16) : ∀ a, (![512 * h.val, 0] : Fin 2 → ℕ) a + (![512, 256] : Fin 2 → ℕ) a ≤ S8192x256.size a := by
  have := h.isLt
  intro a; match a with
  | ⟨0, _⟩ => show 512 * h.val + 512 ≤ 8192; omega
  | ⟨1, _⟩ => show 0 + 256 ≤ 256; omega

/-- Group `h`'s rows of a 1-wide block lie in the block. -/
theorem inbIx (h : Fin 16) : ∀ a, (![512 * h.val, 0] : Fin 2 → ℕ) a + (![512, 1] : Fin 2 → ℕ) a ≤ S8192x1.size a := by
  have := h.isLt
  intro a; match a with
  | ⟨0, _⟩ => show 512 * h.val + 512 ≤ 8192; omega
  | ⟨1, _⟩ => show 0 + 1 ≤ 1; omega

/-- Group `h`'s rows. -/
def rows (x3 : Vec F S8192x256 .f32) (h : Fin 16) : Vec F S512x256 .f32 :=
  View.ld x3 (Rect.unit ![512 * h.val, 0] ![512, 256] (inbRow h))

variable (x0 : Vec F S1x1024 .f32) (x1 : Vec F S256x1024 .f32) (x2 : Vec F S1024x256 .f32) (x3 : Vec F S8192x256 .f32)

/-- Group `h`'s indices. -/
def gIx (h : Fin 16) : IVec S512x1 32 := k0_pay6 (rows x3 h) x1 x0
/-- Group `h`'s one-hot matrix. -/
def gHot (h : Fin 16) : FVec F S512x1024 .f32 := k0_pay7 (rows x3 h) x1 x0
/-- Group `h`'s differences between each row's code and the row. -/
def gDiff (h : Fin 16) : FVec F S512x256 .f32 := k0_pay8 (rows x3 h) x1 x0 x2
/-- Group `h`'s straight-through result. -/
def gOut (h : Fin 16) : FVec F S512x256 .f32 := k0_pay9 (rows x3 h) x1 x0 x2
/-- Group `h`'s sum of squared differences. -/
def gSsd (h : Fin 16) : F .f32 := k0_pay10 (gDiff x0 x1 x2 x3 h)
/-- Group `h`'s counts of the codes. -/
def gCnt (h : Fin 16) : FVec F S1x1024 .f32 := k0_pay11 (gHot x0 x1 x3 h)

/-- Sixteen things put together from the left. -/
def chain {α : Type} (op : α → α → α) (f : Fin 16 → α) : α :=
  [1, 2, 3, 4, 5, 6, 7, 8, 9, 10, 11, 12, 13, 14, 15].foldl (fun a h => op a (f h)) (f 0)

/-- The stores into the straight-through block. -/
def outPieces : List (View.Piece (Elt F) S8192x256 .f32) :=
  groups.map fun h => ⟨Rect.unit ![512 * h.val, 0] ![512, 256] (inbRow h), gOut x0 x1 x2 x3 h⟩
/-- The stores into the block of indices. -/
def ixPieces : List (View.Piece (Elt F) S8192x1 .i32) :=
  groups.map fun h => ⟨Rect.unit ![512 * h.val, 0] ![512, 1] (inbIx h), gIx x0 x1 x3 h⟩
/-- The running sum of squared differences after the point. -/
def ssdNext (s : F .f32) : F .f32 := Scalar.addf s (chain Scalar.addf (gSsd x0 x1 x2 x3))
/-- The running counts after the point. -/
def cntNext (s : FVec F S1x1024 .f32) : FVec F S1x1024 .f32 :=
  shapeCast S1x1024 (addf s (chain addf (gCnt x0 x1 x3))) shapeCasts_S1x1024_S1x1024

/-! ## What each case leaves -/

/-- The zero offsets, as the loads spell them. -/
theorem off2 : (![0, 0] : Fin 2 → ℕ) = fun _ => 0 := by
  funext a; match a with
  | ⟨0, _⟩ => rfl
  | ⟨1, _⟩ => rfl

/-- The one index of a one-element buffer. -/
def o11 : S1x1.Idx :=
  (Rect.unit (s := S1x1) ![0, 0] ![1, 1] inb_S1x1_S1x1_0_0).idx (Shape.Idx.first (by decide))

/-- A load of a whole row reads the row. -/
theorem ldA (X : Vec F S1x1024 .f32) (inb) : View.ld (Val := Elt F) (e' := .f32) X (Rect.unit ![0, 0] ![1, 1024] inb) = X := View.ld_unit_zero off2 inb X
/-- A load of the whole transposed table reads it. -/
theorem ldB (X : Vec F S256x1024 .f32) (inb) : View.ld (Val := Elt F) (e' := .f32) X (Rect.unit ![0, 0] ![256, 1024] inb) = X := View.ld_unit_zero off2 inb X
/-- A load of the whole table reads it. -/
theorem ldC (X : Vec F S1024x256 .f32) (inb) : View.ld (Val := Elt F) (e' := .f32) X (Rect.unit ![0, 0] ![1024, 256] inb) = X := View.ld_unit_zero off2 inb X
/-- A one-element buffer has one index. -/
theorem eq_o11 (i : S1x1.Idx) : i = o11 := by
  funext a
  match a with
  | ⟨0, _⟩ => exact Subsingleton.elim (α := Fin 1) _ _
  | ⟨1, _⟩ => exact Subsingleton.elim (α := Fin 1) _ _

/-- A last store of one element leaves its payload. -/
theorem canon1 (w : Vec F S1x1 .f32) (inb) (L : List (View.Piece (Elt F) S1x1 .f32)) :
    View.canon ((⟨Rect.unit ![0, 0] ![1, 1] inb, w⟩ : View.Piece (Elt F) S1x1 .f32) :: L) = w := View.canon_cons_unit_zero off2 inb w L
/-- A last store of a whole row leaves its payload. -/
theorem canonCnt (w : Vec F S1x1024 .f32) (inb) (L : List (View.Piece (Elt F) S1x1024 .f32)) :
    View.canon ((⟨Rect.unit ![0, 0] ![1, 1024] inb, w⟩ : View.Piece (Elt F) S1x1024 .f32) :: L) = w := View.canon_cons_unit_zero off2 inb w L
/-- A load of what one store of one element left reads its payload. -/
theorem cov1 {sg : RefSig} {κ : Kind} {sp : Space} (v : View sg κ sp S1x1 .f32) (w : Vec F S1x1 .f32) (inb inb') :
    v.readCov [(⟨Rect.unit ![0, 0] ![1, 1] inb, w⟩ : View.Piece (Elt F) S1x1 .f32)] (Rect.unit ![0, 0] ![1, 1] inb').toLoadRect = w :=
  View.readCov_unit_zero v off2 inb w
/-- A load of what one store of a whole row left reads its payload. -/
theorem covCnt {sg : RefSig} {κ : Kind} {sp : Space} (v : View sg κ sp S1x1024 .f32) (w : Vec F S1x1024 .f32) (inb inb') :
    v.readCov [(⟨Rect.unit ![0, 0] ![1, 1024] inb, w⟩ : View.Piece (Elt F) S1x1024 .f32)] (Rect.unit ![0, 0] ![1, 1024] inb').toLoadRect = w :=
  View.readCov_unit_zero v off2 inb w

variable (c : Dev nD) (i : grid0.Coords) (arg1 : Memref sig .tc .vmem S1x1024 .f32) (harg1 : arg1.IsWhole) (arg2 : Memref sig .tc .vmem S256x1024 .f32) (harg2 : arg2.IsWhole) (arg3 : Memref sig .tc .vmem S1024x256 .f32) (harg3 : arg3.IsWhole) (arg4 : Memref sig .tc .vmem S8192x256 .f32) (harg4 : arg4.IsWhole) (arg5 : Memref sig .tc .vmem S8192x256 .f32) (harg5 : arg5.IsWhole) (arg6 : Memref sig .tc .vmem S8192x1 .i32) (harg6 : arg6.IsWhole) (arg7 : Memref sig .tc .vmem S1x1 .f32) (harg7 : arg7.IsWhole) (arg8 : Memref sig .tc .vmem S1x1 .f32) (harg8 : arg8.IsWhole) (arg9 : Memref sig .tc .smem S1x1 .f32) (harg9 : arg9.IsWhole) (arg10 : Memref sig .tc .vmem S1x1024 .f32) (harg10 : arg10.IsWhole)

set_option maxHeartbeats 2000000 in
/-- The straight-through block the first point leaves. -/
theorem outA (hc0 : cond0_0 i) (hc1 : ¬cond0_1 i)  :
    out0_A_4 c i arg1 harg1 arg2 harg2 arg3 harg3 arg4 harg4 arg5 harg5 arg6 harg6 arg7 harg7 arg8 harg8 arg9 harg9 arg10 harg10 hc0 hc1 x0 x1 x2 x3 = View.canon (outPieces x0 x1 x2 x3) := by
  unfold out0_A_4
  rw [View.read_writes_eq_canon _ _ _ (cover0_A_4 c i arg1 harg1 arg2 harg2 arg3 harg3 arg4 harg4 arg5 harg5 arg6 harg6 arg7 harg7 arg8 harg8 arg9 harg9 arg10 harg10 hc0 hc1 x0 x1 x2 x3)]
  unfold kernelRun0_A; dsimp only
  sl_unfold_words
  simp only [View.readAt_eq_ld, harg1.read_unread, harg2.read_unread, harg3.read_unread, harg4.read_unread, harg9.read_unread, harg10.read_unread, ldA, ldB, ldC, canon1, canonCnt, cov1, covCnt]
  rfl

set_option maxHeartbeats 2000000 in
/-- The block of indices the first point leaves. -/
theorem ixA (hc0 : cond0_0 i) (hc1 : ¬cond0_1 i)  :
    out0_A_5 c i arg1 harg1 arg2 harg2 arg3 harg3 arg4 harg4 arg5 harg5 arg6 harg6 arg7 harg7 arg8 harg8 arg9 harg9 arg10 harg10 hc0 hc1 x0 x1 x2 x3 = View.canon (ixPieces x0 x1 x3) := by
  unfold out0_A_5
  rw [View.read_writes_eq_canon _ _ _ (cover0_A_5 c i arg1 harg1 arg2 harg2 arg3 harg3 arg4 harg4 arg5 harg5 arg6 harg6 arg7 harg7 arg8 harg8 arg9 harg9 arg10 harg10 hc0 hc1 x0 x1 x2 x3)]
  unfold kernelRun0_A; dsimp only
  sl_unfold_words
  simp only [View.readAt_eq_ld, harg1.read_unread, harg2.read_unread, harg3.read_unread, harg4.read_unread, harg9.read_unread, harg10.read_unread, ldA, ldB, ldC, canon1, canonCnt, cov1, covCnt]
  rfl

set_option maxHeartbeats 2000000 in
/-- The running sum the first point leaves. -/
theorem ssdA (hc0 : cond0_0 i) (hc1 : ¬cond0_1 i)  :
    sout0_A_0 c i arg1 harg1 arg2 harg2 arg3 harg3 arg4 harg4 arg5 harg5 arg6 harg6 arg7 harg7 arg8 harg8 arg9 harg9 arg10 harg10 hc0 hc1 x0 x1 x2 x3 = fun _ => ssdNext x0 x1 x2 x3 (Scalar.ofBits .f32 0x00000000#32) := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 hc0 hc1 x0 x1 x2 x3)]
  unfold kernelRun0_A; dsimp only
  sl_unfold_words
  simp only [View.readAt_eq_ld, harg1.read_unread, harg2.read_unread, harg3.read_unread, harg4.read_unread, harg9.read_unread, harg10.read_unread, ldA, ldB, ldC, canon1, canonCnt, cov1, covCnt]
  rfl

set_option maxHeartbeats 2000000 in
/-- The running counts the first point leaves. -/
theorem cntA (hc0 : cond0_0 i) (hc1 : ¬cond0_1 i)  :
    sout0_A_1 c i arg1 harg1 arg2 harg2 arg3 harg3 arg4 harg4 arg5 harg5 arg6 harg6 arg7 harg7 arg8 harg8 arg9 harg9 arg10 harg10 hc0 hc1 x0 x1 x2 x3 = cntNext x0 x1 x3 k0_pay4 := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 hc0 hc1 x0 x1 x2 x3)]
  unfold kernelRun0_A; dsimp only
  sl_unfold_words
  simp only [View.readAt_eq_ld, harg1.read_unread, harg2.read_unread, harg3.read_unread, harg4.read_unread, harg9.read_unread, harg10.read_unread, ldA, ldB, ldC, canon1, canonCnt, cov1, covCnt]
  rfl

set_option maxHeartbeats 2000000 in
/-- The straight-through block a middle point leaves. -/
theorem outB (hc0 : ¬cond0_0 i) (hc1 : ¬cond0_1 i) (xs0 : Vec F S1x1 .f32) (xs1 : Vec F S1x1024 .f32) :
    out0_B_4 c i arg1 harg1 arg2 harg2 arg3 harg3 arg4 harg4 arg5 harg5 arg6 harg6 arg7 harg7 arg8 harg8 arg9 harg9 arg10 harg10 hc0 hc1 x0 x1 x2 x3 xs0 xs1 = View.canon (outPieces x0 x1 x2 x3) := by
  unfold out0_B_4
  rw [View.read_writes_eq_canon _ _ _ (cover0_B_4 c i arg1 harg1 arg2 harg2 arg3 harg3 arg4 harg4 arg5 harg5 arg6 harg6 arg7 harg7 arg8 harg8 arg9 harg9 arg10 harg10 hc0 hc1 x0 x1 x2 x3 xs0 xs1)]
  unfold kernelRun0_B; dsimp only
  sl_unfold_words
  simp only [View.readAt_eq_ld, harg1.read_unread, harg2.read_unread, harg3.read_unread, harg4.read_unread, harg9.read_unread, harg10.read_unread, ldA, ldB, ldC, canon1, canonCnt, cov1, covCnt]
  rfl

set_option maxHeartbeats 2000000 in
/-- The block of indices a middle point leaves. -/
theorem ixB (hc0 : ¬cond0_0 i) (hc1 : ¬cond0_1 i) (xs0 : Vec F S1x1 .f32) (xs1 : Vec F S1x1024 .f32) :
    out0_B_5 c i arg1 harg1 arg2 harg2 arg3 harg3 arg4 harg4 arg5 harg5 arg6 harg6 arg7 harg7 arg8 harg8 arg9 harg9 arg10 harg10 hc0 hc1 x0 x1 x2 x3 xs0 xs1 = View.canon (ixPieces x0 x1 x3) := by
  unfold out0_B_5
  rw [View.read_writes_eq_canon _ _ _ (cover0_B_5 c i arg1 harg1 arg2 harg2 arg3 harg3 arg4 harg4 arg5 harg5 arg6 harg6 arg7 harg7 arg8 harg8 arg9 harg9 arg10 harg10 hc0 hc1 x0 x1 x2 x3 xs0 xs1)]
  unfold kernelRun0_B; dsimp only
  sl_unfold_words
  simp only [View.readAt_eq_ld, harg1.read_unread, harg2.read_unread, harg3.read_unread, harg4.read_unread, harg9.read_unread, harg10.read_unread, ldA, ldB, ldC, canon1, canonCnt, cov1, covCnt]
  rfl

set_option maxHeartbeats 2000000 in
/-- The running sum a middle point leaves. -/
theorem ssdB (hc0 : ¬cond0_0 i) (hc1 : ¬cond0_1 i) (xs0 : Vec F S1x1 .f32) (xs1 : Vec F S1x1024 .f32) :
    sout0_B_0 c i arg1 harg1 arg2 harg2 arg3 harg3 arg4 harg4 arg5 harg5 arg6 harg6 arg7 harg7 arg8 harg8 arg9 harg9 arg10 harg10 hc0 hc1 x0 x1 x2 x3 xs0 xs1 = fun _ => ssdNext x0 x1 x2 x3 (xs0 o11) := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 hc0 hc1 x0 x1 x2 x3 xs0 xs1)]
  unfold kernelRun0_B; dsimp only
  sl_unfold_words
  simp only [View.readAt_eq_ld, harg1.read_unread, harg2.read_unread, harg3.read_unread, harg4.read_unread, harg9.read_unread, harg10.read_unread, ldA, ldB, ldC, canon1, canonCnt, cov1, covCnt]
  rfl

set_option maxHeartbeats 2000000 in
/-- The running counts a middle point leaves. -/
theorem cntB (hc0 : ¬cond0_0 i) (hc1 : ¬cond0_1 i) (xs0 : Vec F S1x1 .f32) (xs1 : Vec F S1x1024 .f32) :
    sout0_B_1 c i arg1 harg1 arg2 harg2 arg3 harg3 arg4 harg4 arg5 harg5 arg6 harg6 arg7 harg7 arg8 harg8 arg9 harg9 arg10 harg10 hc0 hc1 x0 x1 x2 x3 xs0 xs1 = cntNext x0 x1 x3 xs1 := by
  unfold sout0_B_1
  rw [View.read_writes_eq_canon _ _ _ (scover0_B_1 c i arg1 harg1 arg2 harg2 arg3 harg3 arg4 harg4 arg5 harg5 arg6 harg6 arg7 harg7 arg8 harg8 arg9 harg9 arg10 harg10 hc0 hc1 x0 x1 x2 x3 xs0 xs1)]
  unfold kernelRun0_B; dsimp only
  sl_unfold_words
  simp only [View.readAt_eq_ld, harg1.read_unread, harg2.read_unread, harg3.read_unread, harg4.read_unread, harg9.read_unread, harg10.read_unread, ldA, ldB, ldC, canon1, canonCnt, cov1, covCnt]
  rfl

set_option maxHeartbeats 2000000 in
/-- The straight-through block the last point leaves. -/
theorem outC (hc0 : ¬cond0_0 i) (hc1 : cond0_1 i) (xs0 : Vec F S1x1 .f32) (xs1 : Vec F S1x1024 .f32) :
    out0_C_4 c i arg1 harg1 arg2 harg2 arg3 harg3 arg4 harg4 arg5 harg5 arg6 harg6 arg7 harg7 arg8 harg8 arg9 harg9 arg10 harg10 hc0 hc1 x0 x1 x2 x3 xs0 xs1 = View.canon (outPieces x0 x1 x2 x3) := by
  unfold out0_C_4
  rw [View.read_writes_eq_canon _ _ _ (cover0_C_4 c i arg1 harg1 arg2 harg2 arg3 harg3 arg4 harg4 arg5 harg5 arg6 harg6 arg7 harg7 arg8 harg8 arg9 harg9 arg10 harg10 hc0 hc1 x0 x1 x2 x3 xs0 xs1)]
  unfold kernelRun0_C; dsimp only
  sl_unfold_words
  simp only [View.readAt_eq_ld, harg1.read_unread, harg2.read_unread, harg3.read_unread, harg4.read_unread, harg9.read_unread, harg10.read_unread, ldA, ldB, ldC, canon1, canonCnt, cov1, covCnt]
  rfl

set_option maxHeartbeats 2000000 in
/-- The block of indices the last point leaves. -/
theorem ixC (hc0 : ¬cond0_0 i) (hc1 : cond0_1 i) (xs0 : Vec F S1x1 .f32) (xs1 : Vec F S1x1024 .f32) :
    out0_C_5 c i arg1 harg1 arg2 harg2 arg3 harg3 arg4 harg4 arg5 harg5 arg6 harg6 arg7 harg7 arg8 harg8 arg9 harg9 arg10 harg10 hc0 hc1 x0 x1 x2 x3 xs0 xs1 = View.canon (ixPieces x0 x1 x3) := by
  unfold out0_C_5
  rw [View.read_writes_eq_canon _ _ _ (cover0_C_5 c i arg1 harg1 arg2 harg2 arg3 harg3 arg4 harg4 arg5 harg5 arg6 harg6 arg7 harg7 arg8 harg8 arg9 harg9 arg10 harg10 hc0 hc1 x0 x1 x2 x3 xs0 xs1)]
  unfold kernelRun0_C; dsimp only
  sl_unfold_words
  simp only [View.readAt_eq_ld, harg1.read_unread, harg2.read_unread, harg3.read_unread, harg4.read_unread, harg9.read_unread, harg10.read_unread, ldA, ldB, ldC, canon1, canonCnt, cov1, covCnt]
  rfl

set_option maxHeartbeats 2000000 in
/-- The running sum the last point leaves. -/
theorem ssdC (hc0 : ¬cond0_0 i) (hc1 : cond0_1 i) (xs0 : Vec F S1x1 .f32) (xs1 : Vec F S1x1024 .f32) :
    sout0_C_0 c i arg1 harg1 arg2 harg2 arg3 harg3 arg4 harg4 arg5 harg5 arg6 harg6 arg7 harg7 arg8 harg8 arg9 harg9 arg10 harg10 hc0 hc1 x0 x1 x2 x3 xs0 xs1 = fun _ => ssdNext x0 x1 x2 x3 (xs0 o11) := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 hc0 hc1 x0 x1 x2 x3 xs0 xs1)]
  unfold kernelRun0_C; dsimp only
  sl_unfold_words
  simp only [View.readAt_eq_ld, harg1.read_unread, harg2.read_unread, harg3.read_unread, harg4.read_unread, harg9.read_unread, harg10.read_unread, ldA, ldB, ldC, canon1, canonCnt, cov1, covCnt]
  rfl

set_option maxHeartbeats 2000000 in
/-- The running counts the last point leaves. -/
theorem cntC (hc0 : ¬cond0_0 i) (hc1 : cond0_1 i) (xs0 : Vec F S1x1 .f32) (xs1 : Vec F S1x1024 .f32) :
    sout0_C_1 c i arg1 harg1 arg2 harg2 arg3 harg3 arg4 harg4 arg5 harg5 arg6 harg6 arg7 harg7 arg8 harg8 arg9 harg9 arg10 harg10 hc0 hc1 x0 x1 x2 x3 xs0 xs1 = cntNext x0 x1 x3 xs1 := by
  unfold sout0_C_1
  rw [View.read_writes_eq_canon _ _ _ (scover0_C_1 c i arg1 harg1 arg2 harg2 arg3 harg3 arg4 harg4 arg5 harg5 arg6 harg6 arg7 harg7 arg8 harg8 arg9 harg9 arg10 harg10 hc0 hc1 x0 x1 x2 x3 xs0 xs1)]
  unfold kernelRun0_C; dsimp only
  sl_unfold_words
  simp only [View.readAt_eq_ld, harg1.read_unread, harg2.read_unread, harg3.read_unread, harg4.read_unread, harg9.read_unread, harg10.read_unread, ldA, ldB, ldC, canon1, canonCnt, cov1, covCnt]
  rfl

set_option maxHeartbeats 2000000 in
/-- The loss the last point leaves. -/
theorem lossC (hc0 : ¬cond0_0 i) (hc1 : cond0_1 i) (xs0 : Vec F S1x1 .f32) (xs1 : Vec F S1x1024 .f32) :
    out0_C_6 c i arg1 harg1 arg2 harg2 arg3 harg3 arg4 harg4 arg5 harg5 arg6 harg6 arg7 harg7 arg8 harg8 arg9 harg9 arg10 harg10 hc0 hc1 x0 x1 x2 x3 xs0 xs1 = k0_pay2 (ssdNext x0 x1 x2 x3 (xs0 o11)) := by
  unfold out0_C_6
  rw [View.read_writes_eq_canon _ _ _ (cover0_C_6 c i arg1 harg1 arg2 harg2 arg3 harg3 arg4 harg4 arg5 harg5 arg6 harg6 arg7 harg7 arg8 harg8 arg9 harg9 arg10 harg10 hc0 hc1 x0 x1 x2 x3 xs0 xs1)]
  unfold kernelRun0_C; dsimp only
  sl_unfold_words
  simp only [View.readAt_eq_ld, harg1.read_unread, harg2.read_unread, harg3.read_unread, harg4.read_unread, harg9.read_unread, harg10.read_unread, ldA, ldB, ldC, canon1, canonCnt, cov1, covCnt]
  rfl

set_option maxHeartbeats 2000000 in
/-- The perplexity the last point leaves. -/
theorem perpC (hc0 : ¬cond0_0 i) (hc1 : cond0_1 i) (xs0 : Vec F S1x1 .f32) (xs1 : Vec F S1x1024 .f32) :
    out0_C_7 c i arg1 harg1 arg2 harg2 arg3 harg3 arg4 harg4 arg5 harg5 arg6 harg6 arg7 harg7 arg8 harg8 arg9 harg9 arg10 harg10 hc0 hc1 x0 x1 x2 x3 xs0 xs1 = k0_pay3 (cntNext x0 x1 x3 xs1) := by
  unfold out0_C_7
  rw [View.read_writes_eq_canon _ _ _ (cover0_C_7 c i arg1 harg1 arg2 harg2 arg3 harg3 arg4 harg4 arg5 harg5 arg6 harg6 arg7 harg7 arg8 harg8 arg9 harg9 arg10 harg10 hc0 hc1 x0 x1 x2 x3 xs0 xs1)]
  unfold kernelRun0_C; dsimp only
  sl_unfold_words
  simp only [View.readAt_eq_ld, harg1.read_unread, harg2.read_unread, harg3.read_unread, harg4.read_unread, harg9.read_unread, harg10.read_unread, ldA, ldB, ldC, canon1, canonCnt, cov1, covCnt]
  rfl

end Cert.Proof.KBody

end
-- ==== Proof.First.lean ====
module

public import Mathlib.Data.EReal.Operations
public import Idealize.ShloMosaic.Lib.Pointwise

@[expose] public section

noncomputable section

namespace Cert.Proof.First

/-- A finite row of extended reals has a first place where it is least. -/
theorem exists_first (d : Fin 1024 → EReal) : ∃ k, (∀ j, d k ≤ d j) ∧ ∀ j, j < k → d k < d j := by
  classical
  obtain ⟨k0, -, hk0⟩ := Finset.exists_min_image Finset.univ d ⟨0, Finset.mem_univ 0⟩
  have hne : (Finset.univ.filter fun k => ∀ j, d k ≤ d j).Nonempty :=
    ⟨k0, by simpa using fun j => hk0 j (Finset.mem_univ j)⟩
  obtain ⟨k, hk, hmin⟩ := Finset.exists_min_image _ (fun k : Fin 1024 => k) hne
  simp only [Finset.mem_filter, Finset.mem_univ, true_and] at hk hmin
  refine ⟨k, hk, fun j hj => lt_of_le_of_ne (hk j) fun he => ?_⟩
  exact absurd (hmin j fun i => he ▸ hk i) (not_le.2 hj)

/-- The first place where a row is least. -/
def firstMin (d : Fin 1024 → EReal) : Fin 1024 := (exists_first d).choose

/-- The row is least at that place. -/
theorem firstMin_le (d : Fin 1024 → EReal) (j : Fin 1024) : d (firstMin d) ≤ d j := (exists_first d).choose_spec.1 j

/-- Before that place the row is larger. -/
theorem firstMin_lt (d : Fin 1024 → EReal) (j : Fin 1024) (h : j < firstMin d) : d (firstMin d) < d j :=
  (exists_first d).choose_spec.2 j h

/-- A place where the row takes its least value is not before the first one. -/
theorem firstMin_le_of_eq (d : Fin 1024 → EReal) (j : Fin 1024) (h : d j = d (firstMin d)) : firstMin d ≤ j :=
  not_lt.1 fun hj => (firstMin_lt d j hj).ne h.symm

/-- Folding the minimum over a row from the top gives its value at that place. -/
theorem fold_min (d : Fin 1024 → EReal) : Finset.univ.fold min ⊤ d = d (firstMin d) :=
  le_antisymm ((Finset.fold_min_le _).2 (.inr ⟨_, Finset.mem_univ _, le_rfl⟩))
    ((Finset.le_fold_min _).2 ⟨le_top, fun j _ => firstMin_le d j⟩)

/-- A fold that meets a value which every other operand leaves as it is ends at that value. -/
theorem fold_absorb {α β : Type} (op : β → β → β) [Std.Commutative op] [Std.Associative op] (s : Finset α) (f : α → β) (b v : β)
    (x : α) (hx : x ∈ s) (hv : f x = v) (hb : op v b = v) (hall : ∀ y ∈ s, op v (f y) = v) : s.fold op b f = v := by
  classical
  have key : ∀ t : Finset α, (∀ y ∈ t, op v (f y) = v) → op v (t.fold op b f) = v := by
    intro t
    induction t using Finset.induction_on with
    | empty => intro _; simpa using hb
    | insert a t ha ih =>
      intro h
      rw [Finset.fold_insert ha, ← Std.Associative.assoc (op := op), h a (Finset.mem_insert_self a t)]
      exact ih fun y hy => h y (Finset.mem_insert_of_mem hy)
  rw [← Finset.insert_erase hx, Finset.fold_insert (Finset.notMem_erase x s), hv]
  exact key _ fun y hy => hall y (Finset.mem_of_mem_erase hy)

/-- A left fold of an operation that always picks an operand ends at an entry that wins against every entry. -/
theorem foldl_wins {β : Type} (f : β → β → β) (v : β) (hpick : ∀ p q, f p q = p ∨ f p q = q) (l : List β) :
    ∀ acc : β, (∀ w, w = acc ∨ w ∈ l → f w v = v ∧ f v w = v) → (v = acc ∨ v ∈ l) → l.foldl f acc = v := by
  induction l with
  | nil => intro acc _ hv; rcases hv with h | h
           · exact h.symm
           · exact absurd h List.not_mem_nil
  | cons a l ih =>
    intro acc hw hv
    refine ih (f acc a) (fun w h => ?_) ?_
    · rcases h with h | h
      · rcases hpick acc a with e | e
        · exact hw w (.inl (h.trans e))
        · exact hw w (.inr (h.trans e ▸ List.mem_cons_self))
      · exact hw w (.inr (List.mem_cons_of_mem _ h))
    · rcases hv with h | h
      · subst h; exact .inl (hw a (.inr List.mem_cons_self)).2.symm
      · rcases List.mem_cons.1 h with h | h
        · subst h; exact .inl (hw acc (.inl rfl)).1.symm
        · exact .inr h

/-- The word of a place below 1024 as an integer. -/
theorem toInt_word (k : Nat) (h : k < 2147483648) : (BitVec.ofNat 32 k).toInt = k := by
  rw [BitVec.toInt_eq_toNat_of_lt] <;> rw [BitVec.toNat_ofNat, Nat.mod_eq_of_lt (by omega)]
  omega

/-- The comparison of two such words is that of the places. -/
theorem slt_word (a b : Nat) (ha : a < 2147483648) (hb : b < 2147483648) :
    (BitVec.ofNat 32 a).slt (BitVec.ofNat 32 b) = decide (a < b) := by
  unfold BitVec.slt
  rw [toInt_word a ha, toInt_word b hb]
  simp

/-- The smaller of two such words. -/
theorem minsi_word (a b : Nat) (ha : a < 2147483648) (hb : b < 2147483648) (h : a ≤ b) :
    Idealize.ShloMosaic.IntOp.minsi (BitVec.ofNat 32 a) (BitVec.ofNat 32 b) = BitVec.ofNat 32 a := by
  unfold Idealize.ShloMosaic.IntOp.minsi
  rw [slt_word a b ha hb]
  by_cases hlt : a < b
  · simp [hlt]
  · have : a = b := by omega
    simp [this]

/-- The least word among "the place where the row is least, else a word past the end" is the first such place. -/
theorem fold_first (d : Fin 1024 → EReal) [Std.Commutative (Idealize.ShloMosaic.IntOp.minsi (w := 32))]
    [Std.Associative (Idealize.ShloMosaic.IntOp.minsi (w := 32))] (f : Fin 1024 → BitVec 32)
    (hf : ∀ k, f k = if d k = d (firstMin d) then BitVec.ofNat 32 k.val else 1024#32) :
    Finset.univ.fold Idealize.ShloMosaic.IntOp.minsi 2147483647#32 f = BitVec.ofNat 32 (firstMin d).val := by
  have hb := (firstMin d).isLt
  refine fold_absorb _ _ _ _ _ (firstMin d) (Finset.mem_univ _) (by rw [hf, if_pos rfl]) ?_ fun k _ => ?_
  · exact minsi_word _ 2147483647 (by omega) (by omega) (by omega)
  · rw [hf]
    split
    · rename_i h
      have := Fin.le_def.1 (firstMin_le_of_eq d k h)
      exact minsi_word _ _ (by omega) (by have := k.isLt; omega) this
    · exact minsi_word _ 1024 (by omega) (by omega) (by omega)

end Cert.Proof.First

end
-- ==== Proof.Tile.lean ====
/-
  What one group of 512 rows computes, element by element, over the extended reals: the distance of a row to a code, the index
  of the nearest code, its one-hot row, the row's code, the sum of the squared differences, the counts.
-/
module

public import proofs.«01_k».proof.Proof.KBody
public import proofs.«01_k».proof.Proof.First

@[expose] public section

set_option maxRecDepth 16384
set_option maxHeartbeats 1000000

noncomputable section

namespace Cert.Proof.Tile

open Cert.KernelIdeal Cert.KernelIdeal.Gen Idealize.ShloMosaic Idealize.ShloMosaic.Pointwise Cert.Proof.First

/-- The distance of row `r` of a group to code `k`, as the body adds it up. -/
def tdist (z : Vec Ideal S512x256 .f32) (x1 : Vec Ideal S256x1024 .f32) (x0 : Vec Ideal S1x1024 .f32) (r : Fin 512) (k : Fin 1024) :
    EReal :=
  ((∑ c : Fin 256, z (ix2 r c) * z (ix2 r c)) + x0 (ix2 0 k)) + ∑ c : Fin 256, z (ix2 r c) * x1 (ix2 c k)

/-- The distances of a group as one array. -/
def distArr (z : Vec Ideal S512x256 .f32) (x1 : Vec Ideal S256x1024 .f32) (x0 : Vec Ideal S1x1024 .f32) : FVec Ideal S512x1024 .f32 :=
  addf
    (addf
      (broadcastTo S512x1024
        (shapeCast S512x1
          (multiReduction .add [1] S512 (mulf (k0_pay5 z) (k0_pay5 z)) 0x00000000#32 reduces_S512x256_S512 (.inl rfl) rfl)
          shapeCasts_S512_S512x1) broadcasts_S512x1_S512x1024)
      (broadcastTo S512x1024 (shapeCast S1x1024 x0 shapeCasts_S1x1024_S1x1024) broadcasts_S1x1024_S512x1024))
    (matmul dot_S512x256_S256x1024_S512x1024_1_0_0_1_n_n none (k0_pay5 z)
      (shapeCast S256x1024 x1 shapeCasts_S256x1024_S256x1024 : FVec Ideal S256x1024 .f32) (constant S512x1024 .f32 0x00000000#32))

/-- The row minima of a group's distances. -/
def minArr (d : FVec Ideal S512x1024 .f32) : FVec Ideal S512 .f32 :=
  multiReduction .minimumf [1] S512 d 0x7F800000#32 reduces_S512x1024_S512 (.inl rfl) rfl

/-- The places of the row minima, a word past the end elsewhere. -/
def placeArr (d : FVec Ideal S512x1024 .f32) : IVec S512x1024 32 :=
  select (cmpf .oeq d (broadcastTo S512x1024 (shapeCast S512x1 (minArr d) shapeCasts_S512_S512x1) broadcasts_S512x1_S512x1024))
    (iota .tc S512x1024 32 [1] iota_S512x1024_d1_w32) (broadcast S512x1024 1024#32)

/-- The word of the largest infinity. -/
theorem ofBits_top : Ideal.ofBits .f32 0x7F800000#32 = ⊤ := by
  simp [Ideal.ofBits, Ideal.ieee]

/-- The float of the widened outcome of comparing the words of two places. -/
theorem sitofp_eq (a b : Fin 1024) : (FloatOps.sitofp .f32 (BitVec.setWidth 32
    (IntOp.cmpi .eq (BitVec.ofNat 32 a.val) (BitVec.ofNat 32 b.val))) : Ideal .f32) = if a = b then (1 : EReal) else 0 := by
  have ha := a.isLt
  have hb := b.isLt
  by_cases h : a = b
  · subst h
    rw [show BitVec.setWidth 32 (IntOp.cmpi .eq (BitVec.ofNat 32 a.val) (BitVec.ofNat 32 a.val)) = 1#32 by simp [IntOp.cmpi], if_pos rfl]
    show (((1#32 : BitVec 32).toInt : ℝ) : EReal) = 1
    norm_num
  · have hne : ¬ BitVec.ofNat 32 a.val = BitVec.ofNat 32 b.val := fun e => h (Fin.ext (by
      have := congrArg BitVec.toNat e
      simp only [BitVec.toNat_ofNat] at this
      omega))
    have hb : (BitVec.ofNat 32 a.val == BitVec.ofNat 32 b.val) = false := beq_eq_false_iff_ne.2 hne
    rw [show BitVec.setWidth 32 (IntOp.cmpi .eq (BitVec.ofNat 32 a.val) (BitVec.ofNat 32 b.val)) = 0#32 by
      simp only [IntOp.cmpi, hb]; rfl, if_neg h]
    show (((0#32 : BitVec 32).toInt : ℝ) : EReal) = 0
    norm_num

/-- An entry of a group's array of distances. -/
theorem distArr_apply (z : Vec Ideal S512x256 .f32) (x1 : Vec Ideal S256x1024 .f32) (x0 : Vec Ideal S1x1024 .f32) (r : Fin 512)
    (k : Fin 1024) : distArr z x1 x0 (ix2 r k) = tdist z x1 x0 r k := by
  pointwise [distArr, k0_pay5, tdist]

/-- The least distance of a row of a group. -/
theorem minArr_apply (d : FVec Ideal S512x1024 .f32) (r : Fin 512) :
    minArr d (ix1 r) = d (ix2 r (firstMin fun k => d (ix2 r k))) := by
  have h := fold_min fun k => d (ix2 r k)
  rw [← h]
  pointwise [minArr]
  rw [ofBits_top]

/-- The place a code gets in the search for the first least distance. -/
theorem placeArr_apply (d : FVec Ideal S512x1024 .f32) (r : Fin 512) (k : Fin 1024) :
    placeArr d (ix2 r k) = if d (ix2 r k) = d (ix2 r (firstMin fun k => d (ix2 r k))) then BitVec.ofNat 32 k.val else 1024#32 := by
  pointwise [placeArr]
  rw [minArr_apply]

/-- The index a group stores for row `r`: the first code at the least distance. -/
theorem pay6_apply (z : Vec Ideal S512x256 .f32) (x1 : Vec Ideal S256x1024 .f32) (x0 : Vec Ideal S1x1024 .f32) (r : Fin 512) :
    k0_pay6 z x1 x0 (ix2 r 0) = BitVec.ofNat 32 (firstMin (tdist z x1 x0 r)).val := by
  have e : k0_pay6 z x1 x0 = shapeCast S512x1
      (multiReductionI .minsi [1] S512 (placeArr (distArr z x1 x0)) 2147483647#32 reduces_S512x1024_S512 rfl) shapeCasts_S512_S512x1 := rfl
  have hd : (fun k => distArr z x1 x0 (ix2 r k)) = tdist z x1 x0 r := funext fun k => distArr_apply z x1 x0 r k
  rw [e, ← hd, ← fold_first _ (fun k => placeArr (distArr z x1 x0) (ix2 r k)) (fun k => placeArr_apply _ r k)]
  pointwise

/-- A group's one-hot rows. -/
theorem pay7_apply (z : Vec Ideal S512x256 .f32) (x1 : Vec Ideal S256x1024 .f32) (x0 : Vec Ideal S1x1024 .f32) (r : Fin 512)
    (k : Fin 1024) : k0_pay7 z x1 x0 (ix2 r k) = if k = firstMin (tdist z x1 x0 r) then (1 : EReal) else 0 := by
  pointwise [k0_pay7]
  rw [pay6_apply]
  exact sitofp_eq _ _

/-- A one-hot row times a matrix is the row of the matrix. -/
theorem hot_sum (m : Fin 1024) (f : Fin 1024 → EReal) : (∑ k, (if k = m then (1 : EReal) else 0) * f k) = f m := by
  rw [Finset.sum_eq_single m (fun k _ hk => by rw [if_neg hk, zero_mul]) (fun h => absurd (Finset.mem_univ m) h), if_pos rfl, one_mul]

/-- The difference a group takes: the nearest code less the row. -/
theorem pay8_apply (z : Vec Ideal S512x256 .f32) (x1 : Vec Ideal S256x1024 .f32) (x0 : Vec Ideal S1x1024 .f32)
    (x2 : Vec Ideal S1024x256 .f32) (r : Fin 512) (c : Fin 256) :
    k0_pay8 z x1 x0 x2 (ix2 r c) = x2 (ix2 (firstMin (tdist z x1 x0 r)) c) - z (ix2 r c) := by
  pointwise [k0_pay8, k0_pay5]
  simp only [pay7_apply, hot_sum]

/-- The row a group stores: the row plus that difference. -/
theorem pay9_apply (z : Vec Ideal S512x256 .f32) (x1 : Vec Ideal S256x1024 .f32) (x0 : Vec Ideal S1x1024 .f32)
    (x2 : Vec Ideal S1024x256 .f32) (r : Fin 512) (c : Fin 256) :
    k0_pay9 z x1 x0 x2 (ix2 r c) = z (ix2 r c) + (x2 (ix2 (firstMin (tdist z x1 x0 r)) c) - z (ix2 r c)) := by
  pointwise [k0_pay9, k0_pay5]
  rw [pay8_apply]

/-- A group's sum of squares. -/
theorem pay10_apply (d : FVec Ideal S512x256 .f32) : k0_pay10 d = ∑ r : Fin 512, ∑ c : Fin 256, d (ix2 r c) * d (ix2 r c) := by
  pointwise [k0_pay10]

/-- A group's column sums. -/
theorem pay11_apply (h : FVec Ideal S512x1024 .f32) (k : Fin 1024) : k0_pay11 h (ix2 0 k) = ∑ r : Fin 512, h (ix2 r k) := by
  pointwise [k0_pay11]

/-- The loss stored at the last point. -/
theorem pay2_apply (s : EReal) (i : S1x1.Idx) :
    k0_pay2 (F := Ideal) s i = Ideal.div (Ideal.ofBits .f32 0x3FA00000#32 * s) (Ideal.ofBits .f32 0x4B000000#32) := by
  pointwise [k0_pay2]

/-- The perplexity stored at the last point. -/
theorem pay3_apply (cnt : Vec Ideal S1x1024 .f32) (i : S1x1.Idx) :
    k0_pay3 cnt i = Ideal.exp (0 - ∑ k : Fin 1024, (cnt (ix2 0 k) * Ideal.ofBits .f32 0x38000000#32)
      * Ideal.log (cnt (ix2 0 k) * Ideal.ofBits .f32 0x38000000#32 + Ideal.ofBits .f32 0x2EDBE6FF#32)) := by
  pointwise [k0_pay3]
  rw [Fin.sum_univ_one]
  rfl

end Cert.Proof.Tile

end
-- ==== Proof.Block.lean ====
/-
  What one block of 8192 rows computes, element by element: the sixteen groups' results put together.
-/
module

public import proofs.«01_k».proof.Proof.Tile
public import Idealize.ShloMosaic.Lib.Pipeline.ValueKit.Tiles

@[expose] public section

set_option maxRecDepth 16384

noncomputable section

namespace Cert.Proof.Block

open Cert.KernelIdeal Cert.KernelIdeal.Gen Idealize.ShloMosaic Idealize.ShloMosaic.Pointwise Cert.Proof.First Cert.Proof.Tile Cert.Proof.KBody

variable (x0 : Vec Ideal S1x1024 .f32) (x1 : Vec Ideal S256x1024 .f32) (x2 : Vec Ideal S1024x256 .f32) (x3 : Vec Ideal S8192x256 .f32)

/-- Row `r` of group `h` as a row of the block. -/
def row (h : Fin 16) (r : Fin 512) : Fin 8192 := ⟨512 * h.val + r.val, by have := h.isLt; have := r.isLt; omega⟩

/-- The distance of row `n` of the block to code `k`. -/
def bdist (n : Fin 8192) (k : Fin 1024) : EReal :=
  ((∑ c : Fin 256, x3 (ix2 n c) * x3 (ix2 n c)) + x0 (ix2 0 k)) + ∑ c : Fin 256, x3 (ix2 n c) * x1 (ix2 c k)

/-- The code nearest to row `n` of the block. -/
def near (n : Fin 8192) : Fin 1024 := firstMin (bdist x0 x1 x3 n)

/-- The difference between row `n`'s code and the row. -/
def bdiff (n : Fin 8192) (c : Fin 256) : EReal := x2 (ix2 (near x0 x1 x3 n) c) - x3 (ix2 n c)

/-- A group's row is the block's. -/
theorem rows_apply (h : Fin 16) (r : Fin 512) (c : Fin 256) : rows x3 h (ix2 r c) = x3 (ix2 (row h r) c) := by
  unfold rows
  refine View.ld_unit_apply_of x3 _ _ _ _ _ fun a => ?_
  match a with
  | ⟨0, _⟩ => rfl
  | ⟨1, _⟩ => exact (Nat.zero_add _).symm

/-- A group's distances are the block's. -/
theorem tdist_rows (h : Fin 16) (r : Fin 512) : tdist (rows x3 h) x1 x0 r = bdist x0 x1 x3 (row h r) := by
  funext k
  unfold tdist bdist
  simp only [rows_apply]

/-- A sum over the block's rows, group by group. -/
theorem sum_rows (f : Fin 8192 → EReal) : ∑ h : Fin 16, ∑ r : Fin 512, f (row h r) = ∑ n : Fin 8192, f n := by
  rw [Fin.sum_univ_tiles 16 512 (by norm_num) f]
  refine Finset.sum_congr rfl fun h _ => Finset.sum_congr rfl fun r _ => congrArg f (Fin.ext ?_)
  show 512 * h.val + r.val = h.val * 512 + r.val
  omega

/-- Sixteen numbers added from the left are their sum. -/
theorem chain_add (f : Fin 16 → EReal) : chain (fun a b => a + b) f = ∑ h, f h := by
  simp only [chain, List.foldl, Fin.sum_univ_castSucc, Fin.sum_univ_zero, zero_add]
  rfl

/-- Adding sixteen rows up reads at an index as adding sixteen numbers up. -/
theorem chain_addf_apply (f : Fin 16 → FVec Ideal S1x1024 .f32) (j : S1x1024.Idx) : chain addf f j = ∑ h, f h j := by
  rw [← chain_add]
  rfl

/-- Every row of the block is some group's. -/
theorem exists_row (n : Fin 8192) : ∃ h r, row h r = n :=
  ⟨⟨n.val / 512, by have := n.isLt; omega⟩, ⟨n.val % 512, by omega⟩, Fin.ext (by show 512 * (n.val / 512) + n.val % 512 = n.val; omega)⟩

/-- Every group is in the list of groups. -/
theorem mem_groups (h : Fin 16) : h ∈ groups := by revert h; decide

/-- The straight-through block at an element. -/
theorem out_apply (n : Fin 8192) (c : Fin 256) :
    View.canon (outPieces x0 x1 x2 x3) (ix2 n c) = x3 (ix2 n c) + bdiff x0 x1 x2 x3 n c := by
  refine View.canon_apply_of_pieces (fun y : S8192x256.Idx => x3 (ix2 (y 0) (y 1)) + bdiff x0 x1 x2 x3 (y 0) (y 1)) _ ?_ _ ?_
  · intro p hp x
    obtain ⟨h, -, rfl⟩ := List.mem_map.1 hp
    obtain ⟨r, l, rfl⟩ : ∃ (r : Fin 512) (l : Fin 256), x = ix2 r l := ⟨x 0, x 1, eq_ix2 x⟩
    have e0 : (Rect.unit (s := S8192x256) ![512 * h.val, 0] ![512, 256] (inbRow h)).emb (ix2 r l) 0 = row h r :=
      Fin.ext (Rect.idx_unit_val _ _ _ _ _)
    have e1 : (Rect.unit (s := S8192x256) ![512 * h.val, 0] ![512, 256] (inbRow h)).emb (ix2 r l) 1 = l :=
      Fin.ext ((Rect.idx_unit_val _ _ _ _ _).trans (Nat.zero_add _))
    have key : ∀ y : S8192x256.Idx, y 0 = row h r → y 1 = l →
        gOut x0 x1 x2 x3 h (ix2 r l) = x3 (ix2 (y 0) (y 1)) + bdiff x0 x1 x2 x3 (y 0) (y 1) := by
      intro y e0 e1
      rw [e0, e1]
      unfold gOut bdiff near
      rw [pay9_apply, tdist_rows, rows_apply]
    exact key _ e0 e1
  · obtain ⟨h, r, rfl⟩ := exists_row n
    refine ⟨_, List.mem_map.2 ⟨h, mem_groups h, rfl⟩, ?_⟩
    rw [Rect.mem_set_unit]
    intro a
    have := r.isLt
    match a with
    | ⟨0, _⟩ => show 512 * h.val ≤ 512 * h.val + r.val ∧ 512 * h.val + r.val < 512 * h.val + 512; omega
    | ⟨1, _⟩ => show 0 ≤ c.val ∧ c.val < 0 + 256; have := c.isLt; omega

/-- The block of indices as a function of the index. -/
def ixFn (y : S8192x1.Idx) : Elt Ideal .i32 := BitVec.ofNat 32 (near x0 x1 x3 (y 0)).val

/-- The block of indices at an element. -/
theorem ix_apply (n : Fin 8192) : View.canon (ixPieces x0 x1 x3) (ix2 n 0) = BitVec.ofNat 32 (near x0 x1 x3 n).val := by
  refine View.canon_apply_of_pieces (Val := Elt Ideal) (e := .i32) (ixFn x0 x1 x3) _ ?_ _ ?_
  · intro p hp x
    obtain ⟨h, -, rfl⟩ := List.mem_map.1 hp
    obtain ⟨r, l, rfl⟩ : ∃ (r : Fin 512) (l : Fin 1), x = ix2 r l := ⟨x 0, x 1, eq_ix2 x⟩
    have e0 : (Rect.unit (s := S8192x1) ![512 * h.val, 0] ![512, 1] (inbIx h)).emb (ix2 r l) 0 = row h r :=
      Fin.ext (Rect.idx_unit_val _ _ _ _ _)
    have key : ∀ y : S8192x1.Idx, y 0 = row h r → gIx x0 x1 x3 h (ix2 r l) = ixFn x0 x1 x3 y := by
      intro y e0
      unfold ixFn gIx near
      rw [e0, Subsingleton.elim l 0]
      rw [pay6_apply, tdist_rows]
    have k2 := key _ e0
    dsimp only
    exact k2
  · obtain ⟨h, r, rfl⟩ := exists_row n
    refine ⟨_, List.mem_map.2 ⟨h, mem_groups h, rfl⟩, ?_⟩
    rw [Rect.mem_set_unit]
    intro a
    have := r.isLt
    match a with
    | ⟨0, _⟩ => show 512 * h.val ≤ 512 * h.val + r.val ∧ 512 * h.val + r.val < 512 * h.val + 512; omega
    | ⟨1, _⟩ => show 0 ≤ 0 ∧ 0 < 0 + 1; omega

/-- The running sum after the block. -/
theorem ssd_apply (s : EReal) :
    ssdNext x0 x1 x2 x3 s = s + ∑ n : Fin 8192, ∑ c : Fin 256, bdiff x0 x1 x2 x3 n c * bdiff x0 x1 x2 x3 n c := by
  show s + chain (fun a b : EReal => a + b) (gSsd x0 x1 x2 x3) = _
  rw [chain_add, ← sum_rows]
  refine congrArg (s + ·) (Finset.sum_congr rfl fun h _ => ?_)
  unfold gSsd gDiff
  rw [pay10_apply]
  simp only [pay8_apply, tdist_rows, rows_apply]
  rfl

/-- The running counts after the block. -/
theorem cnt_apply (s : FVec Ideal S1x1024 .f32) (k : Fin 1024) :
    cntNext x0 x1 x3 s (ix2 0 k) = s (ix2 0 k) + ∑ n : Fin 8192, if k = near x0 x1 x3 n then (1 : EReal) else 0 := by
  unfold cntNext
  rw [shapeCast_self]
  show s (ix2 0 k) + chain addf (gCnt x0 x1 x3) (ix2 0 k) = _
  rw [chain_addf_apply, ← sum_rows]
  refine congrArg (s (ix2 0 k) + ·) (Finset.sum_congr rfl fun h _ => ?_)
  unfold gCnt gHot
  rw [pay11_apply]
  simp only [pay7_apply, tdist_rows]
  rfl

end Cert.Proof.Block

end
-- ==== Proof.Arrays.lean ====
/-
  What the kernel's four output arrays hold after the last point, as functions of the four input arrays: the blocks of 8192 rows
  put together, and the two sums carried from point to point.
-/
module

public import proofs.«01_k».proof.Proof.Block

@[expose] public section

set_option maxRecDepth 16384

noncomputable section

namespace Cert.Proof.Arrays

open Cert.KernelIdeal Cert.KernelIdeal.Gen Idealize.ShloMosaic Idealize.ShloMosaic.TcCoe Idealize.ShloMosaic.Pointwise Idealize.SL.Sem
open Idealize.ShloMosaic.Pipeline (Dat)
open Cert.Proof.First Cert.Proof.Tile Cert.Proof.KBody Cert.Proof.Block

/-! ## The functions of the whole arrays -/

section Fns
variable (A0 : Vec Ideal S1x1024 .f32) (A1 : Vec Ideal S256x1024 .f32) (A2 : Vec Ideal S1024x256 .f32) (A3 : Vec Ideal S32768x256 .f32)

/-- The distance of row `n` of the array to code `k`. -/
def gdist (n : Fin 32768) (k : Fin 1024) : EReal :=
  ((∑ c : Fin 256, A3 (ix2 n c) * A3 (ix2 n c)) + A0 (ix2 0 k)) + ∑ c : Fin 256, A3 (ix2 n c) * A1 (ix2 c k)
/-- The code nearest to row `n`. -/
def gnear (n : Fin 32768) : Fin 1024 := firstMin (gdist A0 A1 A3 n)
/-- The difference between row `n`'s code and the row. -/
def gdiff (n : Fin 32768) (c : Fin 256) : EReal := A2 (ix2 (gnear A0 A1 A3 n) c) - A3 (ix2 n c)
/-- Row `n` of block `t` as a row of the array. -/
def brow (t : Fin 4) (n : Fin 8192) : Fin 32768 := ⟨8192 * t.val + n.val, by have := t.isLt; have := n.isLt; omega⟩
/-- Block `t` of the rows. -/
def blockOf (t : Fin 4) : Vec Ideal S8192x256 .f32 := fun y => A3 (ix2 (brow t (y 0)) (y 1))

/-- The nearest code to a row of a block is the one nearest to that row of the array. -/
theorem near_block (t : Fin 4) (n : Fin 8192) : near A0 A1 (blockOf A3 t) n = gnear A0 A1 A3 (brow t n) := rfl
/-- The difference at a row of a block is the one at that row of the array. -/
theorem diff_block (t : Fin 4) (n : Fin 8192) (c : Fin 256) : bdiff A0 A1 A2 (blockOf A3 t) n c = gdiff A0 A1 A2 A3 (brow t n) c := rfl

/-- A block's sum of squared differences. -/
def bssd (t : Fin 4) : EReal := ∑ n : Fin 8192, ∑ c : Fin 256, gdiff A0 A1 A2 A3 (brow t n) c * gdiff A0 A1 A2 A3 (brow t n) c
/-- A block's counts. -/
def bcnt (t : Fin 4) (k : Fin 1024) : EReal := ∑ n : Fin 8192, if k = gnear A0 A1 A3 (brow t n) then (1 : EReal) else 0

/-- A sum over the array's rows, block by block. -/
theorem sum_blocks (f : Fin 32768 → EReal) :
    ((∑ n : Fin 8192, f (brow 0 n)) + (∑ n : Fin 8192, f (brow 1 n)) + (∑ n : Fin 8192, f (brow 2 n)) + ∑ n : Fin 8192, f (brow 3 n)) = ∑ n : Fin 32768, f n := by
  rw [Fin.sum_univ_tiles 4 8192 (by norm_num) f]
  have e : ∀ t : Fin 4, ∑ n : Fin 8192, f (brow t n) = ∑ n : Fin 8192, f ⟨t.val * 8192 + n.val, by have := t.isLt; have := n.isLt; omega⟩ :=
    fun t => Finset.sum_congr rfl fun n _ => congrArg f (Fin.ext (by show 8192 * t.val + n.val = t.val * 8192 + n.val; omega))
  simp only [e]
  exact (Fin.sum_univ_four (fun t : Fin 4 => ∑ n : Fin 8192, f ⟨t.val * 8192 + n.val, by have := t.isLt; have := n.isLt; omega⟩)).symm

/-- The sum of squared differences over the whole array. -/
def gssd : EReal := ∑ n : Fin 32768, ∑ c : Fin 256, gdiff A0 A1 A2 A3 n c * gdiff A0 A1 A2 A3 n c
/-- The counts over the whole array. -/
def gcnt (k : Fin 1024) : EReal := ∑ n : Fin 32768, if k = gnear A0 A1 A3 n then (1 : EReal) else 0

/-- The blocks' sums of squared differences add up to the array's. -/
theorem gssd_eq : bssd A0 A1 A2 A3 0 + bssd A0 A1 A2 A3 1 + bssd A0 A1 A2 A3 2 + bssd A0 A1 A2 A3 3 = gssd A0 A1 A2 A3 :=
  sum_blocks fun n => ∑ c : Fin 256, gdiff A0 A1 A2 A3 n c * gdiff A0 A1 A2 A3 n c
/-- The blocks' counts add up to the array's. -/
theorem gcnt_eq (k : Fin 1024) : bcnt A0 A1 A3 0 k + bcnt A0 A1 A3 1 k + bcnt A0 A1 A3 2 k + bcnt A0 A1 A3 3 k = gcnt A0 A1 A3 k :=
  sum_blocks fun n => if k = gnear A0 A1 A3 n then (1 : EReal) else 0

/-- The running sum after block `t`. -/
theorem ssd_block (t : Fin 4) (s : EReal) : ssdNext A0 A1 A2 (blockOf A3 t) s = s + bssd A0 A1 A2 A3 t := by
  rw [ssd_apply]; rfl
/-- The running counts after block `t`. -/
theorem cnt_block (t : Fin 4) (s : FVec Ideal S1x1024 .f32) (k : Fin 1024) :
    cntNext A0 A1 (blockOf A3 t) s (ix2 0 k) = s (ix2 0 k) + bcnt A0 A1 A3 t k := by
  rw [cnt_apply]; rfl

end Fns

/-! ## The blocks the points read -/

variable (m : (ℓ : Loc nD τ sig) → Buf (Elt Ideal) ℓ) (ρ : Dev nD → PrngReg)

/-- The squared lengths of the codes, as the region finds them. -/
abbrev B0 (c : Dev nD) : Vec Ideal S1x1024 .f32 := V m c main_v4
/-- The scaled codes, transposed, as the region finds them. -/
abbrev B1 (c : Dev nD) : Vec Ideal S256x1024 .f32 := V m c main_v7
/-- The codes, as the region finds them. -/
abbrev B2 (c : Dev nD) : Vec Ideal S1024x256 .f32 := V m c main_arg1
/-- The rows, as the region finds them. -/
abbrev B3 (c : Dev nD) : Vec Ideal S32768x256 .f32 := V m c main_v1

/-- A point as a number below four. -/
def pt (t : Fin cfg0.N) : Fin 4 := ⟨t.val, lt_of_lt_of_eq t.isLt N_0⟩

/-- At each point this window stands at its whole array. -/
theorem ixf0 : ∀ t : Fin cfg0.N, win0_0.index t (0 : Fin 2) = 0 ∧ win0_0.index t (1 : Fin 2) = 0 := (by decide +kernel : ∀ t : Fin grid0.N, _)
/-- At each point this window stands at its whole array. -/
theorem ixf1 : ∀ t : Fin cfg0.N, win0_1.index t (0 : Fin 2) = 0 ∧ win0_1.index t (1 : Fin 2) = 0 := (by decide +kernel : ∀ t : Fin grid0.N, _)
/-- At each point this window stands at its whole array. -/
theorem ixf2 : ∀ t : Fin cfg0.N, win0_2.index t (0 : Fin 2) = 0 ∧ win0_2.index t (1 : Fin 2) = 0 := (by decide +kernel : ∀ t : Fin grid0.N, _)
/-- At each point this window stands at its block of rows. -/
theorem ixf3 : ∀ t : Fin cfg0.N, win0_3.index t (0 : Fin 2) = t.val ∧ win0_3.index t (1 : Fin 2) = 0 := (by decide +kernel : ∀ t : Fin grid0.N, _)
/-- At each point this window stands at its block of rows. -/
theorem ixf4 : ∀ t : Fin cfg0.N, win0_4.index t (0 : Fin 2) = t.val ∧ win0_4.index t (1 : Fin 2) = 0 := (by decide +kernel : ∀ t : Fin grid0.N, _)
/-- At each point this window stands at its block of rows. -/
theorem ixf5 : ∀ t : Fin cfg0.N, win0_5.index t (0 : Fin 2) = t.val ∧ win0_5.index t (1 : Fin 2) = 0 := (by decide +kernel : ∀ t : Fin grid0.N, _)
/-- At each point this window stands at its whole array. -/
theorem ixf6 : ∀ t : Fin cfg0.N, win0_6.index t (0 : Fin 2) = 0 ∧ win0_6.index t (1 : Fin 2) = 0 := (by decide +kernel : ∀ t : Fin grid0.N, _)
/-- At each point this window stands at its whole array. -/
theorem ixf7 : ∀ t : Fin cfg0.N, win0_7.index t (0 : Fin 2) = 0 ∧ win0_7.index t (1 : Fin 2) = 0 := (by decide +kernel : ∀ t : Fin grid0.N, _)

/-- Every point reads the whole of the first array. -/
theorem blk0 (c : Dev nD) (t : Fin cfg0.N) : iblk m c 0 t = B0 m c := by
  obtain ⟨e0, e1⟩ := ixf0 t
  funext y
  show B0 m c (((cfg0.win 0).blk t).view.emb y) = B0 m c y
  refine congrArg _ (funext fun a => Fin.ext ?_)
  match a with
  | ⟨0, _⟩ => show win0_0.index t (0 : Fin 2) * 1 + 1 * (y 0).val = (y 0).val; omega
  | ⟨1, _⟩ => show win0_0.index t (1 : Fin 2) * 1024 + 1 * (y 1).val = (y 1).val; omega
/-- Every point reads the whole of the second array. -/
theorem blk1 (c : Dev nD) (t : Fin cfg0.N) : iblk m c 1 t = B1 m c := by
  obtain ⟨e0, e1⟩ := ixf1 t
  funext y
  show B1 m c (((cfg0.win 1).blk t).view.emb y) = B1 m c y
  refine congrArg _ (funext fun a => Fin.ext ?_)
  match a with
  | ⟨0, _⟩ => show win0_1.index t (0 : Fin 2) * 256 + 1 * (y 0).val = (y 0).val; omega
  | ⟨1, _⟩ => show win0_1.index t (1 : Fin 2) * 1024 + 1 * (y 1).val = (y 1).val; omega
/-- Every point reads the whole of the third array. -/
theorem blk2 (c : Dev nD) (t : Fin cfg0.N) : iblk m c 2 t = B2 m c := by
  obtain ⟨e0, e1⟩ := ixf2 t
  funext y
  show B2 m c (((cfg0.win 2).blk t).view.emb y) = B2 m c y
  refine congrArg _ (funext fun a => Fin.ext ?_)
  match a with
  | ⟨0, _⟩ => show win0_2.index t (0 : Fin 2) * 1024 + 1 * (y 0).val = (y 0).val; omega
  | ⟨1, _⟩ => show win0_2.index t (1 : Fin 2) * 256 + 1 * (y 1).val = (y 1).val; omega
/-- Point `t` reads block `t` of the rows. -/
theorem blk3 (c : Dev nD) (t : Fin cfg0.N) : iblk m c 3 t = blockOf (B3 m c) (pt t) := by
  obtain ⟨e0, e1⟩ := ixf3 t
  funext y
  show B3 m c (((cfg0.win 3).blk t).view.emb y) = B3 m c (ix2 (brow (pt t) (y 0)) (y 1))
  refine congrArg _ (funext fun a => Fin.ext ?_)
  match a with
  | ⟨0, _⟩ => show win0_3.index t (0 : Fin 2) * 8192 + 1 * (y 0).val = 8192 * t.val + (y 0).val; omega
  | ⟨1, _⟩ => show win0_3.index t (1 : Fin 2) * 256 + 1 * (y 1).val = (y 1).val; omega

/-! ## What the points leave -/

/-- Every point leaves its block's straight-through rows. -/
theorem out4 (c : Dev nD) (t : Fin cfg0.N) :
    (outsAt0 m c t.val t.isLt).1 = View.canon (outPieces (B0 m c) (B1 m c) (B2 m c) (blockOf (B3 m c) (pt t))) := by
  rw [← blk0 m c t, ← blk1 m c t, ← blk2 m c t, ← blk3 m c t]
  by_cases h0 : t.val % 4 = 0
  · rw [outsAt0_A m c t h0 (by omega)]; dsimp only; exact outA (F := Ideal) ..
  · by_cases h1 : t.val % 4 = 3
    · rw [outsAt0_C m c t h0 h1]; dsimp only; exact outC (F := Ideal) ..
    · rw [outsAt0_B m c t h0 h1]; dsimp only; exact outB (F := Ideal) ..

/-- Every point leaves its block's indices. -/
theorem out5 (c : Dev nD) (t : Fin cfg0.N) :
    (outsAt0 m c t.val t.isLt).2.1 = View.canon (ixPieces (B0 m c) (B1 m c) (blockOf (B3 m c) (pt t))) := by
  rw [← blk0 m c t, ← blk1 m c t, ← blk3 m c t]
  by_cases h0 : t.val % 4 = 0
  · rw [outsAt0_A m c t h0 (by omega)]; dsimp only; exact ixA (F := Ideal) ..
  · by_cases h1 : t.val % 4 = 3
    · rw [outsAt0_C m c t h0 h1]; dsimp only; exact ixC (F := Ideal) ..
    · rw [outsAt0_B m c t h0 h1]; dsimp only; exact ixB (F := Ideal) ..

/-- The point before. -/
abbrev before (t : Fin cfg0.N) : t.val - 1 < cfg0.N := Nat.lt_of_le_of_lt (Nat.sub_le _ _) t.isLt

/-- The first point starts the running sum. -/
theorem ssd_first (c : Dev nD) (t : Fin cfg0.N) (h0 : t.val % 4 = 0) :
    (outsAt0 m c t.val t.isLt).2.2.2.2.1 = fun _ => bssd (B0 m c) (B1 m c) (B2 m c) (B3 m c) (pt t) := by
  rw [outsAt0_A m c t h0 (by omega)]
  dsimp only
  refine Eq.trans (ssdA (F := Ideal) ..) (funext fun _ => ?_)
  rw [blk0, blk1, blk2, blk3, ssd_block]
  refine (congrArg (· + _) Ideal.ofBits_zero_f32).trans (zero_add _)
/-- The first point starts the running counts. -/
theorem cnt_first (c : Dev nD) (t : Fin cfg0.N) (h0 : t.val % 4 = 0) (k : Fin 1024) :
    (outsAt0 m c t.val t.isLt).2.2.2.2.2 (ix2 0 k) = bcnt (B0 m c) (B1 m c) (B3 m c) (pt t) k := by
  rw [outsAt0_A m c t h0 (by omega)]
  dsimp only
  refine Eq.trans (congrFun (cntA (F := Ideal) ..) _) ?_
  rw [blk0, blk1, blk3, cnt_block]
  refine (congrArg (· + _) ?_).trans (zero_add _)
  pointwise [k0_pay4]
/-- A middle point adds to the running sum. -/
theorem ssd_mid (c : Dev nD) (t : Fin cfg0.N) (h0 : ¬t.val % 4 = 0) (h1 : ¬t.val % 4 = 3) (s : EReal)
    (hs : (outsAt0 m c (t.val - 1) (before t)).2.2.2.2.1 = fun _ => s) :
    (outsAt0 m c t.val t.isLt).2.2.2.2.1 = fun _ => s + bssd (B0 m c) (B1 m c) (B2 m c) (B3 m c) (pt t) := by
  rw [outsAt0_B m c t h0 h1]
  dsimp only
  refine Eq.trans (ssdB (F := Ideal) ..) (funext fun _ => ?_)
  rw [blk0, blk1, blk2, blk3, ssd_block, hs]
/-- A middle point adds to the running counts. -/
theorem cnt_mid (c : Dev nD) (t : Fin cfg0.N) (h0 : ¬t.val % 4 = 0) (h1 : ¬t.val % 4 = 3) (k : Fin 1024) (s : EReal)
    (hs : (outsAt0 m c (t.val - 1) (before t)).2.2.2.2.2 (ix2 0 k) = s) :
    (outsAt0 m c t.val t.isLt).2.2.2.2.2 (ix2 0 k) = s + bcnt (B0 m c) (B1 m c) (B3 m c) (pt t) k := by
  rw [outsAt0_B m c t h0 h1]
  dsimp only
  refine Eq.trans (congrFun (cntB (F := Ideal) ..) _) ?_
  rw [blk0, blk1, blk3, cnt_block, hs]
/-- The last point's loss. -/
theorem loss_last (c : Dev nD) (t : Fin cfg0.N) (h0 : ¬t.val % 4 = 0) (h1 : t.val % 4 = 3) (s : EReal)
    (hs : (outsAt0 m c (t.val - 1) (before t)).2.2.2.2.1 = fun _ => s) :
    (outsAt0 m c t.val t.isLt).2.2.1 = k0_pay2 (F := Ideal) (s + bssd (B0 m c) (B1 m c) (B2 m c) (B3 m c) (pt t)) := by
  rw [outsAt0_C m c t h0 h1]
  dsimp only
  refine Eq.trans (lossC (F := Ideal) ..) ?_
  rw [blk0, blk1, blk2, blk3, ssd_block, hs]
/-- The last point's perplexity. -/
theorem perp_last (c : Dev nD) (t : Fin cfg0.N) (h0 : ¬t.val % 4 = 0) (h1 : t.val % 4 = 3) (s : Fin 1024 → EReal)
    (hs : ∀ k, (outsAt0 m c (t.val - 1) (before t)).2.2.2.2.2 (ix2 0 k) = s k) :
    (outsAt0 m c t.val t.isLt).2.2.2.1 = k0_pay3 (F := Ideal) (fun y : S1x1024.Idx => s (y 1) + bcnt (B0 m c) (B1 m c) (B3 m c) (pt t) (y 1)) := by
  rw [outsAt0_C m c t h0 h1]
  dsimp only
  refine Eq.trans (perpC (F := Ideal) ..) (congrArg (k0_pay3 (F := Ideal)) (funext fun y => ?_))
  obtain ⟨a, k, rfl⟩ : ∃ (a : Fin 1) (k : Fin 1024), y = ix2 a k := ⟨y 0, y 1, eq_ix2 y⟩
  obtain rfl : a = 0 := Subsingleton.elim _ _
  rw [blk0, blk1, blk3, cnt_block, hs]
  rfl

/-- The loss the last point leaves. -/
theorem loss3 (c : Dev nD) (t : Fin cfg0.N) (h1 : t.val % 4 = 3) :
    (outsAt0 m c t.val t.isLt).2.2.1 = k0_pay2 (F := Ideal) (gssd (B0 m c) (B1 m c) (B2 m c) (B3 m c)) := by
  have hN : t.val < 4 := lt_of_lt_of_eq t.isLt N_0
  obtain rfl : t = ⟨3, lt_of_lt_of_eq (by decide) N_0.symm⟩ := Fin.ext (by show t.val = 3; omega)
  have s0 := ssd_first m c ⟨0, lt_of_lt_of_eq (by decide) N_0.symm⟩ rfl
  have s1 := ssd_mid m c ⟨1, lt_of_lt_of_eq (by decide) N_0.symm⟩ (by decide) (by decide) _ s0
  have s2 := ssd_mid m c ⟨2, lt_of_lt_of_eq (by decide) N_0.symm⟩ (by decide) (by decide) _ s1
  refine (loss_last m c ⟨3, lt_of_lt_of_eq (by decide) N_0.symm⟩ (by decide) rfl _ s2).trans ?_
  rw [← gssd_eq]
  rfl

/-- The perplexity the last point leaves. -/
theorem perp3 (c : Dev nD) (t : Fin cfg0.N) (h1 : t.val % 4 = 3) :
    (outsAt0 m c t.val t.isLt).2.2.2.1 = k0_pay3 (F := Ideal) (fun y : S1x1024.Idx => gcnt (B0 m c) (B1 m c) (B3 m c) (y 1)) := by
  have hN : t.val < 4 := lt_of_lt_of_eq t.isLt N_0
  obtain rfl : t = ⟨3, lt_of_lt_of_eq (by decide) N_0.symm⟩ := Fin.ext (by show t.val = 3; omega)
  have s0 := fun k => cnt_first m c ⟨0, lt_of_lt_of_eq (by decide) N_0.symm⟩ rfl k
  have s1 := fun k => cnt_mid m c ⟨1, lt_of_lt_of_eq (by decide) N_0.symm⟩ (by decide) (by decide) k _ (s0 k)
  have s2 := fun k => cnt_mid m c ⟨2, lt_of_lt_of_eq (by decide) N_0.symm⟩ (by decide) (by decide) k _ (s1 k)
  refine (perp_last m c ⟨3, lt_of_lt_of_eq (by decide) N_0.symm⟩ (by decide) rfl _ s2).trans (congrArg (k0_pay3 (F := Ideal)) (funext fun y => ?_))
  exact gcnt_eq (B0 m c) (B1 m c) (B3 m c) (y 1)

/-! ## The arrays after the run -/

/-- The straight-through array. -/
def G4 (c : Dev nD) : Vec Ideal S32768x256 .f32 := fun i =>
  B3 m c (ix2 (i 0) (i 1)) + gdiff (B0 m c) (B1 m c) (B2 m c) (B3 m c) (i 0) (i 1)
/-- The array of indices. -/
def G5 (c : Dev nD) : IVec S32768x1 32 := fun i => BitVec.ofNat 32 (gnear (B0 m c) (B1 m c) (B3 m c) (i 0)).val

/-- An index is in point `t`'s block of output window 4 when each coordinate is in the block's range. -/
theorem mem_blk4 (t : Fin cfg0.N) (i : S32768x256.Idx) :
    i ∈ ((cfg0.win 4).blk t).view.set ↔ ∀ a : Fin 2, win0_4.index t a * S8192x256.size a ≤ (i a).val ∧ (i a).val < win0_4.index t a * S8192x256.size a + S8192x256.size a := by
  show i ∈ ((View.whole main_v8_0).slice (win0_4.rect t)).set ↔ _
  rw [View.set_slice_whole, Rect.mem_set_unit]
  exact Iff.rfl
/-- An index is in point `t`'s block of output window 5 when each coordinate is in the block's range. -/
theorem mem_blk5 (t : Fin cfg0.N) (i : S32768x1.Idx) :
    i ∈ ((cfg0.win 5).blk t).view.set ↔ ∀ a : Fin 2, win0_5.index t a * S8192x1.size a ≤ (i a).val ∧ (i a).val < win0_5.index t a * S8192x1.size a + S8192x1.size a := by
  show i ∈ ((View.whole main_v8_1).slice (win0_5.rect t)).set ↔ _
  rw [View.set_slice_whole, Rect.mem_set_unit]
  exact Iff.rfl
/-- An index is in point `t`'s block of output window 6 when each coordinate is in the block's range. -/
theorem mem_blk6 (t : Fin cfg0.N) (i : S1x1.Idx) :
    i ∈ ((cfg0.win 6).blk t).view.set ↔ ∀ a : Fin 2, win0_6.index t a * S1x1.size a ≤ (i a).val ∧ (i a).val < win0_6.index t a * S1x1.size a + S1x1.size a := by
  show i ∈ ((View.whole main_v8_2).slice (win0_6.rect t)).set ↔ _
  rw [View.set_slice_whole, Rect.mem_set_unit]
  exact Iff.rfl
/-- An index is in point `t`'s block of output window 7 when each coordinate is in the block's range. -/
theorem mem_blk7 (t : Fin cfg0.N) (i : S1x1.Idx) :
    i ∈ ((cfg0.win 7).blk t).view.set ↔ ∀ a : Fin 2, win0_7.index t a * S1x1.size a ≤ (i a).val ∧ (i a).val < win0_7.index t a * S1x1.size a + S1x1.size a := by
  show i ∈ ((View.whole main_v8_3).slice (win0_7.rect t)).set ↔ _
  rw [View.set_slice_whole, Rect.mem_set_unit]
  exact Iff.rfl

/-- The straight-through array after the run. -/
theorem final4 (c : Dev nD) : (dats m 0 c).arrAt 4 cfg0.N = G4 m c := by
  refine (dats m 0 c).arrAt_eq_of_cover 4 _ (fun t hf => ?_) (fun i => ?_)
  · show (cfg0.win 4).cut (grid0.coords t) ((dats m 0 c).after 4 t) = _
    rw [after0_4, out4]
    obtain ⟨e0, e1⟩ := ixf4 t
    funext y
    obtain ⟨r, l, rfl⟩ : ∃ (r : Fin 8192) (l : Fin 256), y = ix2 r l := ⟨y 0, y 1, eq_ix2 y⟩
    have hx : (cfg0.win 4).xinj (grid0.coords t) (ix2 r l) = (ix2 r l : S8192x256.Idx) := by
      funext a; apply Fin.ext
      match a with
      | ⟨0, _⟩ => rfl
      | ⟨1, _⟩ => rfl
    have hb : ((cfg0.win 4).blk t).view.emb (ix2 r l) = (ix2 (brow (pt t) r) l : S32768x256.Idx) := by
      funext a; apply Fin.ext
      match a with
      | ⟨0, _⟩ => show win0_4.index t (0 : Fin 2) * 8192 + 1 * r.val = 8192 * t.val + r.val; omega
      | ⟨1, _⟩ => show win0_4.index t (1 : Fin 2) * 256 + 1 * l.val = l.val; omega
    show View.canon (outPieces (B0 m c) (B1 m c) (B2 m c) (blockOf (B3 m c) (pt t))) ((cfg0.win 4).xinj (grid0.coords t) (ix2 r l)) = G4 m c (((cfg0.win 4).blk t).view.emb (ix2 r l))
    rw [hx, hb, out_apply]
    rfl
  · have hi0 : (i 0).val < 32768 := (i 0).isLt
    have hi1 : (i 1).val < 256 := (i 1).isLt
    obtain ⟨t, ht⟩ : ∃ t : Fin cfg0.N, t.val = (i 0).val / 8192 :=
      ⟨⟨(i 0).val / 8192, lt_of_lt_of_eq (Nat.div_lt_of_lt_mul hi0) N_0.symm⟩, rfl⟩
    refine ⟨t, flush0_4 _, ?_⟩
    obtain ⟨e0, e1⟩ := ixf4 t
    refine (mem_blk4 _ i).2 fun a => ?_
    match a with
    | ⟨0, _⟩ => show win0_4.index _ (0 : Fin 2) * 8192 ≤ (i 0).val ∧ (i 0).val < win0_4.index _ (0 : Fin 2) * 8192 + 8192; omega
    | ⟨1, _⟩ => show win0_4.index _ (1 : Fin 2) * 256 ≤ (i 1).val ∧ (i 1).val < win0_4.index _ (1 : Fin 2) * 256 + 256; omega

/-- The array of indices after the run. -/
theorem final5 (c : Dev nD) : (dats m 0 c).arrAt 5 cfg0.N = G5 m c := by
  refine (dats m 0 c).arrAt_eq_of_cover 5 _ (fun t hf => ?_) (fun i => ?_)
  · show (cfg0.win 5).cut (grid0.coords t) ((dats m 0 c).after 5 t) = _
    rw [after0_5, out5]
    obtain ⟨e0, e1⟩ := ixf5 t
    funext y
    obtain ⟨r, l, rfl⟩ : ∃ (r : Fin 8192) (l : Fin 1), y = ix2 r l := ⟨y 0, y 1, eq_ix2 y⟩
    have hx : (cfg0.win 5).xinj (grid0.coords t) (ix2 r l) = (ix2 r 0 : S8192x1.Idx) := by
      funext a; apply Fin.ext
      match a with
      | ⟨0, _⟩ => rfl
      | ⟨1, _⟩ => show l.val = 0; omega
    have hb : ((cfg0.win 5).blk t).view.emb (ix2 r l) = (ix2 (brow (pt t) r) 0 : S32768x1.Idx) := by
      funext a; apply Fin.ext
      match a with
      | ⟨0, _⟩ => show win0_5.index t (0 : Fin 2) * 8192 + 1 * r.val = 8192 * t.val + r.val; omega
      | ⟨1, _⟩ => show win0_5.index t (1 : Fin 2) * 1 + 1 * l.val = 0; omega
    show View.canon (ixPieces (B0 m c) (B1 m c) (blockOf (B3 m c) (pt t))) ((cfg0.win 5).xinj (grid0.coords t) (ix2 r l)) = G5 m c (((cfg0.win 5).blk t).view.emb (ix2 r l))
    rw [hx, hb, ix_apply]
    rfl
  · have hi0 : (i 0).val < 32768 := (i 0).isLt
    have hi1 : (i 1).val < 1 := (i 1).isLt
    obtain ⟨t, ht⟩ : ∃ t : Fin cfg0.N, t.val = (i 0).val / 8192 :=
      ⟨⟨(i 0).val / 8192, lt_of_lt_of_eq (Nat.div_lt_of_lt_mul hi0) N_0.symm⟩, rfl⟩
    refine ⟨t, flush0_5 _, ?_⟩
    obtain ⟨e0, e1⟩ := ixf5 t
    refine (mem_blk5 _ i).2 fun a => ?_
    match a with
    | ⟨0, _⟩ => show win0_5.index _ (0 : Fin 2) * 8192 ≤ (i 0).val ∧ (i 0).val < win0_5.index _ (0 : Fin 2) * 8192 + 8192; omega
    | ⟨1, _⟩ => show win0_5.index _ (1 : Fin 2) * 1 ≤ (i 1).val ∧ (i 1).val < win0_5.index _ (1 : Fin 2) * 1 + 1; omega

/-- The last point. -/
abbrev tLast : Fin cfg0.N := ⟨3, lt_of_lt_of_eq (by decide) N_0.symm⟩

/-- The loss after the run. -/
theorem final6 (c : Dev nD) : (dats m 0 c).arrAt 6 cfg0.N = k0_pay2 (F := Ideal) (gssd (B0 m c) (B1 m c) (B2 m c) (B3 m c)) := by
  refine (dats m 0 c).arrAt_eq_of_cover 6 _ (fun t hf => ?_) (fun i => ?_)
  · show (cfg0.win 6).cut (grid0.coords t) ((dats m 0 c).after 6 t) = _
    rw [after0_6, loss3 m c t ((flush0_6 t).1 hf)]
    rfl
  · have hi0 : (i 0).val < 1 := (i 0).isLt
    have hi1 : (i 1).val < 1 := (i 1).isLt
    refine ⟨tLast, (flush0_6 _).2 rfl, ?_⟩
    obtain ⟨e0, e1⟩ := ixf6 tLast
    refine (mem_blk6 _ i).2 fun a => ?_
    match a with
    | ⟨0, _⟩ => show win0_6.index _ (0 : Fin 2) * 1 ≤ (i 0).val ∧ (i 0).val < win0_6.index _ (0 : Fin 2) * 1 + 1; omega
    | ⟨1, _⟩ => show win0_6.index _ (1 : Fin 2) * 1 ≤ (i 1).val ∧ (i 1).val < win0_6.index _ (1 : Fin 2) * 1 + 1; omega

/-- The perplexity after the run. -/
theorem final7 (c : Dev nD) : (dats m 0 c).arrAt 7 cfg0.N = k0_pay3 (F := Ideal) (fun y : S1x1024.Idx => gcnt (B0 m c) (B1 m c) (B3 m c) (y 1)) := by
  refine (dats m 0 c).arrAt_eq_of_cover 7 _ (fun t hf => ?_) (fun i => ?_)
  · show (cfg0.win 7).cut (grid0.coords t) ((dats m 0 c).after 7 t) = _
    rw [after0_7, perp3 m c t ((flush0_7 t).1 hf)]
    rfl
  · have hi0 : (i 0).val < 1 := (i 0).isLt
    have hi1 : (i 1).val < 1 := (i 1).isLt
    refine ⟨tLast, (flush0_7 _).2 rfl, ?_⟩
    obtain ⟨e0, e1⟩ := ixf7 tLast
    refine (mem_blk7 _ i).2 fun a => ?_
    match a with
    | ⟨0, _⟩ => show win0_7.index _ (0 : Fin 2) * 1 ≤ (i 0).val ∧ (i 0).val < win0_7.index _ (0 : Fin 2) * 1 + 1; omega
    | ⟨1, _⟩ => show win0_7.index _ (1 : Fin 2) * 1 ≤ (i 1).val ∧ (i 1).val < win0_7.index _ (1 : Fin 2) * 1 + 1; omega

end Cert.Proof.Arrays

end
-- ==== Proof.KRun.lean ====
/-
  The kernel's run: what its region reads, as functions of the two arguments, and what the lines after the region make of its
  four output arrays.
-/
module

public import proofs.«01_k».proof.Proof.Arrays
public import Idealize.ShloMosaic.Lib.StableHlo.RunRead

@[expose] public section

set_option maxRecDepth 16384

noncomputable section

namespace Cert.Proof.KRun

open Cert.KernelIdeal Cert.KernelIdeal.Gen Idealize.ShloMosaic Idealize.ShloMosaic.TcCoe Idealize.ShloMosaic.Pointwise Idealize.SL.Sem
open Idealize.ShloMosaic.StableHlo
open Idealize.ShloMosaic.Pipeline (Dat)
open Cert.Proof.Arrays

/-! ## What the region reads -/

/-- The rows: the channel axis moved last, the other four axes flattened. -/
def zRows (z : FVec Ideal S4x256x8x32x32 .f32) : FVec Ideal S32768x256 .f32 :=
  shapeCast S32768x256 (transpose S4x8x32x32x256 [0, 2, 3, 4, 1] z transposes_S4x256x8x32x32_S4x8x32x32x256_0_2_3_4_1)
    shapeCasts_S4x8x32x32x256_S32768x256

/-- The squared length of each code, as a row. -/
def codeLen (e : FVec Ideal S1024x256 .f32) : FVec Ideal S1x1024 .f32 :=
  shapeCast S1x1024 (Host.reduceAdd (mulf e e) (constant S_ .f32 0x00000000#32) reducesTo_S1024x256_S1024_d1 h_S_) shapeCasts_S1024_S1x1024

/-- The codes as columns, each entry scaled by minus two. -/
def codeCols (e : FVec Ideal S1024x256 .f32) : FVec Ideal S256x1024 .f32 :=
  mulf (broadcastInDim S256x1024 ![] bcast_S_S256x1024 (constant S_ .f32 0xC0000000#32))
    (transpose S256x1024 [1, 0] e transposes_S1024x256_S256x1024_1_0)

/-- Rows back in the layout of the argument. -/
def unRows (q : FVec Ideal S32768x256 .f32) : FVec Ideal S4x256x8x32x32 .f32 :=
  transpose S4x256x8x32x32 [0, 4, 1, 2, 3] (shapeCast S4x8x32x32x256 q shapeCasts_S32768x256_S4x8x32x32x256)
    transposes_S4x8x32x32x256_S4x256x8x32x32_0_4_1_2_3

/-- The lines before the region leave the rows. -/
theorem pre_v1 (V : Valuation τ sig (Elt Ideal)) : after (hostOps0 (F := Ideal)) V (Proc.devRef .tc main_v1) = zRows (V (Proc.devRef .tc main_arg0)) := by
  after_results_simp
  rfl

/-- The lines before the region leave the squared lengths of the codes. -/
theorem pre_v4 (V : Valuation τ sig (Elt Ideal)) : after (hostOps0 (F := Ideal)) V (Proc.devRef .tc main_v4) = codeLen (V (Proc.devRef .tc main_arg1)) := by
  after_results_simp
  rfl

/-- The lines before the region leave the scaled codes. -/
theorem pre_v7 (V : Valuation τ sig (Elt Ideal)) : after (hostOps0 (F := Ideal)) V (Proc.devRef .tc main_v7) = codeCols (V (Proc.devRef .tc main_arg1)) := by
  after_results_simp
  rfl

/-! ## What the lines after the region leave -/

/-- The straight-through rows in the layout of the argument. -/
theorem post_v10 (V : Valuation τ sig (Elt Ideal)) : after (hostOps1 (F := Ideal)) V (Proc.devRef .tc main_v10) = unRows (V (Proc.devRef .tc main_v8_0)) := by
  after_results_simp
  rfl

/-- The indices, flat. -/
theorem post_v11 (V : Valuation τ sig (Elt Ideal)) :
    after (hostOps1 (F := Ideal)) V (Proc.devRef .tc main_v11) = (shapeCast S32768 (V (Proc.devRef .tc main_v8_1) : IVec S32768x1 32) shapeCasts_S32768x1_S32768 : IVec S32768 32) := by
  after_results_simp
  rfl

/-- The loss as a scalar. -/
theorem post_v12 (V : Valuation τ sig (Elt Ideal)) :
    after (hostOps1 (F := Ideal)) V (Proc.devRef .tc main_v12) = (shapeCast S_ (V (Proc.devRef .tc main_v8_2) : FVec Ideal S1x1 .f32) shapeCasts_S1x1_S_ : FVec Ideal S_ .f32) := by
  after_results_simp
  rfl

/-- The perplexity as a scalar. -/
theorem post_v13 (V : Valuation τ sig (Elt Ideal)) :
    after (hostOps1 (F := Ideal)) V (Proc.devRef .tc main_v13) = (shapeCast S_ (V (Proc.devRef .tc main_v8_3) : FVec Ideal S1x1 .f32) shapeCasts_S1x1_S_ : FVec Ideal S_ .f32) := by
  after_results_simp
  rfl

/-! ## The run -/

/-- The windows' arrays are different buffers. -/
theorem arr_inj : Function.Injective (Pipeline.arrRef spec0) := by
  intro w w'
  revert w w'
  decide

variable (m : (ℓ : Loc nD τ sig) → Buf (Elt Ideal) ℓ) (ρ : Dev nD → PrngReg)

/-- THE KERNEL'S RUN: every result buffer at its function of what the region reads. -/
theorem run : θ_run defs (onTc (τ := τ) (main (F := Ideal))) ⟨m, fun _ => 0, ρ⟩ fun r => ∀ c : Dev nD,
    r.2.mem ((c.tc : Thread nD τ).loc main_v10) = unRows (G4 m c)
    ∧ r.2.mem ((c.tc : Thread nD τ).loc main_v12) = (shapeCast S_ (k0_pay2 (F := Ideal) (gssd (B0 m c) (B1 m c) (B2 m c) (B3 m c))) shapeCasts_S1x1_S_ : FVec Ideal S_ .f32)
    ∧ r.2.mem ((c.tc : Thread nD τ).loc main_v11) = (shapeCast S32768 (G5 m c) shapeCasts_S32768x1_S32768 : IVec S32768 32)
    ∧ r.2.mem ((c.tc : Thread nD τ).loc main_v13) = (shapeCast S_ (k0_pay3 (F := Ideal) (fun y : S1x1024.Idx => gcnt (B0 m c) (B1 m c) (B3 m c) (y 1))) shapeCasts_S1x1_S_ : FVec Ideal S_ .f32)
    ∧ r.2.mem ((c.tc : Thread nD τ).loc main_arg0) = m ((c.tc : Thread nD τ).loc main_arg0)
    ∧ r.2.mem ((c.tc : Thread nD τ).loc main_arg1) = m ((c.tc : Thread nD τ).loc main_arg1) := by
  refine (θ_run defs _ _).mono (fun r h c => ?_) (θ_run_and (run_main m ρ) (unchanged m ρ))
  obtain ⟨h, hk⟩ := h
  obtain ⟨-, hr⟩ := h c
  refine ⟨?_, ?_, ?_, ?_, (hk c).1, (hk c).2⟩
  · refine (hr main_v10 (Pipeline.mem_restRefs_of main_v10 (by decide) (by decide))).trans ?_
    refine (post_v10 _).trans (congrArg unRows ?_)
    exact (Pipeline.withArrays_arr _ arr_inj c _ _ 4).trans (final4 m c)
  · refine (hr main_v12 (Pipeline.mem_restRefs_of main_v12 (by decide) (by decide))).trans ?_
    refine (post_v12 _).trans (congrArg (fun x : FVec Ideal S1x1 .f32 => (shapeCast S_ x shapeCasts_S1x1_S_ : FVec Ideal S_ .f32)) ?_)
    exact (Pipeline.withArrays_arr _ arr_inj c _ _ 6).trans (final6 m c)
  · refine (hr main_v11 (Pipeline.mem_restRefs_of main_v11 (by decide) (by decide))).trans ?_
    refine (post_v11 _).trans (congrArg (fun x : IVec S32768x1 32 => (shapeCast S32768 x shapeCasts_S32768x1_S32768 : IVec S32768 32)) ?_)
    exact (Pipeline.withArrays_arr _ arr_inj c _ _ 5).trans (final5 m c)
  · refine (hr main_v13 (Pipeline.mem_restRefs_of main_v13 (by decide) (by decide))).trans ?_
    refine (post_v13 _).trans (congrArg (fun x : FVec Ideal S1x1 .f32 => (shapeCast S_ x shapeCasts_S1x1_S_ : FVec Ideal S_ .f32)) ?_)
    exact (Pipeline.withArrays_arr _ arr_inj c _ _ 7).trans (final7 m c)

end Cert.Proof.KRun

end
-- ==== Proof.RefRun.lean ====
/-
  The run of the reference, read as five named steps. @main is a straight line of host operations; it is cut here where the
  reference's own statements cut it — the distances, the index of the least one, the codebook row of each index, the loss
  with the straight-through result, the perplexity —, each step's result is a named function of the buffers it reads, and the
  run puts the steps together: every result buffer ends at the composition of the named functions of the two arguments.
-/
module

public import proofs.«01_k».proof.Proof.Gen.ReferenceIdeal
public import Idealize.ShloMosaic.Lib.StableHlo.Run
public import Idealize.ShloMosaic.Lib.StableHlo.RunRead
public import Idealize.ShloMosaic.Lib.Pipeline.Frame

@[expose] public section

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

/-! ## What each step computes -/

/-- The rows: the channel axis moved last, the other four axes flattened. -/
def zFlat (z : FVec F S4x256x8x32x32 .f32) : FVec F S32768x256 .f32 :=
  shapeCast S32768x256 (transpose S4x8x32x32x256 [0, 2, 3, 4, 1] z transposes_S4x256x8x32x32_S4x8x32x32x256_0_2_3_4_1)
    shapeCasts_S4x8x32x32x256_S32768x256

/-- The squared length of each row, along its row of distances. -/
def rowSq (x : FVec F S32768x256 .f32) : FVec F S32768x1024 .f32 :=
  broadcastInDim S32768x1024 ![0, 1] bcast_S32768x1_S32768x1024_0_1 (broadcastInDim S32768x1 ![0] bcast_S32768_S32768x1_0
    (Host.reduceAdd (mulf x x) (constant S_ .f32 0x00000000#32) reducesTo_S32768x256_S32768_d1 h_S_))

/-- The squared length of each code, along its column of distances. -/
def codeSq (e : FVec F S1024x256 .f32) : FVec F S32768x1024 .f32 :=
  broadcastInDim S32768x1024 ![0, 1] bcast_S1x1024_S32768x1024_0_1 (broadcastInDim S1x1024 ![1] bcast_S1024_S1x1024_1
    (Host.reduceAdd (mulf e e) (constant S_ .f32 0x00000000#32) reducesTo_S1024x256_S1024_d1 h_S_))

/-- The inner product of each row with each code. -/
def inner (x : FVec F S32768x256 .f32) (e : FVec F S1024x256 .f32) : FVec F S32768x1024 .f32 :=
  Host.dotGeneral dot_S32768x256_S256x1024_S32768x1024_1_0_0_1_n_n none x
    (transpose S256x1024 [1, 0] e transposes_S1024x256_S256x1024_1_0)

/-- The distances: the two squared lengths less twice the inner product. -/
def dist (x : FVec F S32768x256 .f32) (e : FVec F S1024x256 .f32) : FVec F S32768x1024 .f32 :=
  subf (addf (rowSq x) (codeSq e))
    (mulf (broadcastInDim S32768x1024 ![] bcast_S_S32768x1024 (constant S_ .f32 0x40000000#32)) (inner x e))

/-- The index of the first least distance of each row. -/
def argminOf (d : FVec F S32768x1024 .f32) : IVec S32768 32 := fun j =>
  (Host.argReduce reducer_argmin_f32_i32 d (iotaInDim S32768x1024 32 1) (constant S_ .f32 0x7F800000#32) (constantI S_ 32 0#32)
    reducesTo_S32768x1024_S32768_d1 h_S_ j).2

/-- An index, a negative one counted from the end, as a column. -/
def takeIx (ix : IVec S32768 32) : IVec S32768x1 32 :=
  broadcastInDim S32768x1 ![0] bcast_S32768_S32768x1_0
    (select (cmpi .slt ix (broadcastInDim S32768 ![] bcast_S_S32768 (constantI S_ 32 0#32)))
      (addi ix (broadcastInDim S32768 ![] bcast_S_S32768 (constantI S_ 32 1024#32))) ix)

/-- Whether each index names a code. -/
def takeOk (ix : IVec S32768 32) : IVec S32768 1 :=
  Host.reduce IntOp.andi
    (andi (cmpi .sge (takeIx ix) (broadcastInDim S32768x1 ![] bcast_S_S32768x1 (constantI S_ 32 0#32)))
      (cmpi .sle (takeIx ix) (broadcastInDim S32768x1 ![0, 1] bcast_S1x1_S32768x1_0_1
        (broadcastInDim S1x1 ![1] bcast_S1_S1x1_1 (constantI S1 32 1023#32)))))
    (constantI S_ 1 1#1) reducesTo_S32768x1_S32768_d1 h_S_

/-- The code each index names. -/
def takeOf (e : FVec F S1024x256 .f32) (ix : IVec S32768 32) : FVec F S32768x256 .f32 :=
  select (broadcastInDim S32768x256 ![0] bcast_S32768_S32768x256_0 (takeOk ix))
    (Host.gather gather_S1024x256_S32768x1_S32768x256_1_0_n_n_0_1_1256 e (takeIx ix))
    (broadcastInDim S32768x256 ![] bcast_S_S32768x256 (constant S_ .f32 0x7FC00000#32))

/-- Rows back in the layout of the argument. -/
def unflat (q : FVec F S32768x256 .f32) : FVec F S4x256x8x32x32 .f32 :=
  transpose S4x256x8x32x32 [0, 4, 1, 2, 3] (shapeCast S4x8x32x32x256 q shapeCasts_S32768x256_S4x8x32x32x256)
    transposes_S4x8x32x32x256_S4x256x8x32x32_0_4_1_2_3

/-- The mean squared difference of two arrays. -/
def mse (q z : FVec F S4x256x8x32x32 .f32) : FVec F S_ .f32 :=
  Host.divf (Host.reduceAdd (mulf (subf q z) (subf q z)) (constant S_ .f32 0x00000000#32) reducesTo_S4x256x8x32x32_S_d0_1_2_3_4 h_S_)
    (constant S_ .f32 0x4B000000#32)

/-- The loss: the mean squared difference and a quarter of it. -/
def lossOf (q z : FVec F S4x256x8x32x32 .f32) : FVec F S_ .f32 :=
  addf (mse q z) (mulf (constant S_ .f32 0x3E800000#32) (mse q z))

/-- The straight-through result. -/
def throughOf (q z : FVec F S4x256x8x32x32 .f32) : FVec F S4x256x8x32x32 .f32 := addf z (subf q z)

/-- The share of the rows that each code got. -/
def shareOf (ix : IVec S32768 32) : FVec F S1024 .f32 :=
  Host.divf
    (Host.reduceAdd
      (uitofp .f32 (cmpi .eq
        (broadcastInDim S32768x1024 ![0, 1] bcast_S32768x1_S32768x1024_0_1 (broadcastInDim S32768x1 ![0] bcast_S32768_S32768x1_0 ix))
        (broadcastInDim S32768x1024 ![0, 1] bcast_S1x1024_S32768x1024_0_1 (iotaInDim S1x1024 32 1))) : FVec F S32768x1024 .f32)
      (constant S_ .f32 0x00000000#32) reducesTo_S32768x1024_S1024_d0 h_S_)
    (broadcastInDim S1024 ![] bcast_S_S1024 (constant S_ .f32 0x47000000#32))

/-- The exponential of the entropy of a share. -/
def perpOf (p : FVec F S1024 .f32) : FVec F S_ .f32 :=
  Host.exp (Host.negf (Host.reduceAdd
    (mulf p (Host.log (addf p (broadcastInDim S1024 ![] bcast_S_S1024 (constant S_ .f32 0x2EDBE6FF#32)))))
    (constant S_ .f32 0x00000000#32) reducesTo_S1024_S_d0 h_S_))

/-! ## The steps' operations -/

/-- The operations of the flattened rows and the distances. -/
def opsDist : List (HloOp τ sig (Elt F)) :=
  [ unary main_arg0 main_v0 ((transpose S4x8x32x32x256 [0, 2, 3, 4, 1] · transposes_S4x256x8x32x32_S4x8x32x32x256_0_2_3_4_1) : (⟨S4x256x8x32x32, .f32⟩ : BufTy).Contents (Elt F) → (⟨S4x8x32x32x256, .f32⟩ : BufTy).Contents (Elt F)),
    reshape main_v0 main_v1 (rfl : (.f32 : EltTy) = .f32) shapeCasts_S4x8x32x32x256_S32768x256,
    binary main_v1 main_v1 main_v2 (mulf : (⟨S32768x256, .f32⟩ : BufTy).Contents (Elt F) → (⟨S32768x256, .f32⟩ : BufTy).Contents (Elt F) → (⟨S32768x256, .f32⟩ : BufTy).Contents (Elt F)),
    nullary main_cst (constant S_ .f32 0x00000000#32),
    binary main_v2 main_cst main_v3 ((fun x v => Host.reduceAdd x v reducesTo_S32768x256_S32768_d1 h_S_) : (⟨S32768x256, .f32⟩ : BufTy).Contents (Elt F) → (⟨S_, .f32⟩ : BufTy).Contents (Elt F) → (⟨S32768, .f32⟩ : BufTy).Contents (Elt F)),
    unary main_v3 main_v4 (broadcastInDim S32768x1 ![0] bcast_S32768_S32768x1_0 : (⟨S32768, .f32⟩ : BufTy).Contents (Elt F) → (⟨S32768x1, .f32⟩ : BufTy).Contents (Elt F)),
    binary main_arg1 main_arg1 main_v5 (mulf : (⟨S1024x256, .f32⟩ : BufTy).Contents (Elt F) → (⟨S1024x256, .f32⟩ : BufTy).Contents (Elt F) → (⟨S1024x256, .f32⟩ : BufTy).Contents (Elt F)),
    nullary main_cst_0 (constant S_ .f32 0x00000000#32),
    binary main_v5 main_cst_0 main_v6 ((fun x v => Host.reduceAdd x v reducesTo_S1024x256_S1024_d1 h_S_) : (⟨S1024x256, .f32⟩ : BufTy).Contents (Elt F) → (⟨S_, .f32⟩ : BufTy).Contents (Elt F) → (⟨S1024, .f32⟩ : BufTy).Contents (Elt F)),
    unary main_v6 main_v7 (broadcastInDim S1x1024 ![1] bcast_S1024_S1x1024_1 : (⟨S1024, .f32⟩ : BufTy).Contents (Elt F) → (⟨S1x1024, .f32⟩ : BufTy).Contents (Elt F)),
    unary main_v4 main_v8 (broadcastInDim S32768x1024 ![0, 1] bcast_S32768x1_S32768x1024_0_1 : (⟨S32768x1, .f32⟩ : BufTy).Contents (Elt F) → (⟨S32768x1024, .f32⟩ : BufTy).Contents (Elt F)),
    unary main_v7 main_v9 (broadcastInDim S32768x1024 ![0, 1] bcast_S1x1024_S32768x1024_0_1 : (⟨S1x1024, .f32⟩ : BufTy).Contents (Elt F) → (⟨S32768x1024, .f32⟩ : BufTy).Contents (Elt F)),
    binary main_v8 main_v9 main_v10 (addf : (⟨S32768x1024, .f32⟩ : BufTy).Contents (Elt F) → (⟨S32768x1024, .f32⟩ : BufTy).Contents (Elt F) → (⟨S32768x1024, .f32⟩ : BufTy).Contents (Elt F)),
    unary main_arg1 main_v11 ((transpose S256x1024 [1, 0] · transposes_S1024x256_S256x1024_1_0) : (⟨S1024x256, .f32⟩ : BufTy).Contents (Elt F) → (⟨S256x1024, .f32⟩ : BufTy).Contents (Elt F)),
    binary main_v1 main_v11 main_v12 ((fun l r => Host.dotGeneral dot_S32768x256_S256x1024_S32768x1024_1_0_0_1_n_n none l r) : (⟨S32768x256, .f32⟩ : BufTy).Contents (Elt F) → (⟨S256x1024, .f32⟩ : BufTy).Contents (Elt F) → (⟨S32768x1024, .f32⟩ : BufTy).Contents (Elt F)),
    nullary main_cst_1 (constant S_ .f32 0x40000000#32),
    unary main_cst_1 main_v13 (broadcastInDim S32768x1024 ![] bcast_S_S32768x1024 : (⟨S_, .f32⟩ : BufTy).Contents (Elt F) → (⟨S32768x1024, .f32⟩ : BufTy).Contents (Elt F)),
    binary main_v13 main_v12 main_v14 (mulf : (⟨S32768x1024, .f32⟩ : BufTy).Contents (Elt F) → (⟨S32768x1024, .f32⟩ : BufTy).Contents (Elt F) → (⟨S32768x1024, .f32⟩ : BufTy).Contents (Elt F)),
    binary main_v10 main_v14 main_v15 (subf : (⟨S32768x1024, .f32⟩ : BufTy).Contents (Elt F) → (⟨S32768x1024, .f32⟩ : BufTy).Contents (Elt F) → (⟨S32768x1024, .f32⟩ : BufTy).Contents (Elt F)) ]

set_option maxRecDepth 8192 in
/-- They touch TensorCore references only. -/
theorem opsDist_sub : (opsDist : List (HloOp τ sig (Elt F))).Forall fun op => op.bufs ⊆ tcRefs τ sig :=
  ⟨unary_bufs_sub .., reshape_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub ..⟩

/-- The operations of the index of the least distance of each row. -/
def opsArgmin : List (HloOp τ sig (Elt F)) :=
  [ TRef.nullary (TRef.of (T := ⟨S32768x1024, .i32⟩) main_call0_v0) (iotaInDim S32768x1024 32 1),
    TRef.nullary (TRef.of (T := ⟨S_, .f32⟩) main_call0_cst) (constant S_ .f32 0x7F800000#32),
    TRef.nullary (TRef.of (T := ⟨S_, .i32⟩) main_call0_c) (constantI S_ 32 0#32),
    TRef.quaternary (TRef.of (T := ⟨S32768x1024, .f32⟩) main_v15) (TRef.of (T := ⟨S32768x1024, .i32⟩) main_call0_v0) (TRef.of (T := ⟨S_, .f32⟩) main_call0_cst) (TRef.of (T := ⟨S_, .i32⟩) main_call0_c) (TRef.of (T := ⟨S32768, .f32⟩) main_call0_v1_0) (fun x y u v j => (Host.argReduce reducer_argmin_f32_i32 x y u v reducesTo_S32768x1024_S32768_d1 h_S_ j).1),
    TRef.quaternary (TRef.of (T := ⟨S32768x1024, .f32⟩) main_v15) (TRef.of (T := ⟨S32768x1024, .i32⟩) main_call0_v0) (TRef.of (T := ⟨S_, .f32⟩) main_call0_cst) (TRef.of (T := ⟨S_, .i32⟩) main_call0_c) (TRef.of (T := ⟨S32768, .i32⟩) main_v16) (fun x y u v j => (Host.argReduce reducer_argmin_f32_i32 x y u v reducesTo_S32768x1024_S32768_d1 h_S_ j).2) ]

set_option maxRecDepth 8192 in
/-- They touch TensorCore references only. -/
theorem opsArgmin_sub : (opsArgmin : List (HloOp τ sig (Elt F))).Forall fun op => op.bufs ⊆ tcRefs τ sig :=
  ⟨nullary_bufs_sub .., nullary_bufs_sub .., nullary_bufs_sub .., quaternary_bufs_sub .., quaternary_bufs_sub ..⟩

/-- The operations of the codebook row of each index. -/
def opsTake : List (HloOp τ sig (Elt F)) :=
  [ TRef.nullary (TRef.of (T := ⟨S_, .i32⟩) main_call1_c) (constantI S_ 32 0#32),
    TRef.unary (TRef.of (T := ⟨S_, .i32⟩) main_call1_c) (TRef.of (T := ⟨S32768, .i32⟩) main_call1_v0) (broadcastInDim S32768 ![] bcast_S_S32768),
    TRef.binary (TRef.of (T := ⟨S32768, .i32⟩) main_v16) (TRef.of (T := ⟨S32768, .i32⟩) main_call1_v0) (TRef.of (T := ⟨S32768, .i1⟩) main_call1_v1) (cmpi .slt),
    TRef.nullary (TRef.of (T := ⟨S_, .i32⟩) main_call1_c_0) (constantI S_ 32 1024#32),
    TRef.unary (TRef.of (T := ⟨S_, .i32⟩) main_call1_c_0) (TRef.of (T := ⟨S32768, .i32⟩) main_call1_v2) (broadcastInDim S32768 ![] bcast_S_S32768),
    TRef.binary (TRef.of (T := ⟨S32768, .i32⟩) main_v16) (TRef.of (T := ⟨S32768, .i32⟩) main_call1_v2) (TRef.of (T := ⟨S32768, .i32⟩) main_call1_v3) addi,
    TRef.ternary (TRef.of (T := ⟨S32768, .i1⟩) main_call1_v1) (TRef.of (T := ⟨S32768, .i32⟩) main_call1_v3) (TRef.of (T := ⟨S32768, .i32⟩) main_v16) (TRef.of (T := ⟨S32768, .i32⟩) main_call1_v4) select,
    TRef.unary (TRef.of (T := ⟨S32768, .i32⟩) main_call1_v4) (TRef.of (T := ⟨S32768x1, .i32⟩) main_call1_v5) (broadcastInDim S32768x1 ![0] bcast_S32768_S32768x1_0),
    TRef.nullary (TRef.of (T := ⟨S1, .i32⟩) main_call1_c_1) (constantI S1 32 1023#32),
    TRef.nullary (TRef.of (T := ⟨S_, .i32⟩) main_call1_c_2) (constantI S_ 32 0#32),
    TRef.unary (TRef.of (T := ⟨S_, .i32⟩) main_call1_c_2) (TRef.of (T := ⟨S32768x1, .i32⟩) main_call1_v6) (broadcastInDim S32768x1 ![] bcast_S_S32768x1),
    TRef.binary (TRef.of (T := ⟨S32768x1, .i32⟩) main_call1_v5) (TRef.of (T := ⟨S32768x1, .i32⟩) main_call1_v6) (TRef.of (T := ⟨S32768x1, .i1⟩) main_call1_v7) (cmpi .sge),
    TRef.unary (TRef.of (T := ⟨S1, .i32⟩) main_call1_c_1) (TRef.of (T := ⟨S1x1, .i32⟩) main_call1_v8) (broadcastInDim S1x1 ![1] bcast_S1_S1x1_1),
    TRef.unary (TRef.of (T := ⟨S1x1, .i32⟩) main_call1_v8) (TRef.of (T := ⟨S32768x1, .i32⟩) main_call1_v9) (broadcastInDim S32768x1 ![0, 1] bcast_S1x1_S32768x1_0_1),
    TRef.binary (TRef.of (T := ⟨S32768x1, .i32⟩) main_call1_v5) (TRef.of (T := ⟨S32768x1, .i32⟩) main_call1_v9) (TRef.of (T := ⟨S32768x1, .i1⟩) main_call1_v10) (cmpi .sle),
    TRef.binary (TRef.of (T := ⟨S32768x1, .i1⟩) main_call1_v7) (TRef.of (T := ⟨S32768x1, .i1⟩) main_call1_v10) (TRef.of (T := ⟨S32768x1, .i1⟩) main_call1_v11) andi,
    TRef.nullary (TRef.of (T := ⟨S_, .i1⟩) main_call1_c_3) (constantI S_ 1 1#1),
    TRef.binary (TRef.of (T := ⟨S32768x1, .i1⟩) main_call1_v11) (TRef.of (T := ⟨S_, .i1⟩) main_call1_c_3) (TRef.of (T := ⟨S32768, .i1⟩) main_call1_v12) (fun x v => Host.reduce IntOp.andi x v reducesTo_S32768x1_S32768_d1 h_S_),
    TRef.binary (TRef.of (T := ⟨S1024x256, .f32⟩) main_arg1) (TRef.of (T := ⟨S32768x1, .i32⟩) main_call1_v5) (TRef.of (T := ⟨S32768x256, .f32⟩) main_call1_v13) (fun x i => Host.gather gather_S1024x256_S32768x1_S32768x256_1_0_n_n_0_1_1256 x i),
    TRef.unary (TRef.of (T := ⟨S32768, .i1⟩) main_call1_v12) (TRef.of (T := ⟨S32768x256, .i1⟩) main_call1_v14) (broadcastInDim S32768x256 ![0] bcast_S32768_S32768x256_0),
    TRef.nullary (TRef.of (T := ⟨S_, .f32⟩) main_call1_cst) (constant S_ .f32 0x7FC00000#32),
    TRef.unary (TRef.of (T := ⟨S_, .f32⟩) main_call1_cst) (TRef.of (T := ⟨S32768x256, .f32⟩) main_call1_v15) (broadcastInDim S32768x256 ![] bcast_S_S32768x256),
    TRef.ternary (TRef.of (T := ⟨S32768x256, .i1⟩) main_call1_v14) (TRef.of (T := ⟨S32768x256, .f32⟩) main_call1_v13) (TRef.of (T := ⟨S32768x256, .f32⟩) main_call1_v15) (TRef.of (T := ⟨S32768x256, .f32⟩) main_v17) select ]

set_option maxRecDepth 8192 in
/-- They touch TensorCore references only. -/
theorem opsTake_sub : (opsTake : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

/-- The operations of the loss and the straight-through result. -/
def opsLoss : List (HloOp τ sig (Elt F)) :=
  [ reshape main_v17 main_v18 (rfl : (.f32 : EltTy) = .f32) shapeCasts_S32768x256_S4x8x32x32x256,
    unary main_v18 main_v19 ((transpose S4x256x8x32x32 [0, 4, 1, 2, 3] · transposes_S4x8x32x32x256_S4x256x8x32x32_0_4_1_2_3) : (⟨S4x8x32x32x256, .f32⟩ : BufTy).Contents (Elt F) → (⟨S4x256x8x32x32, .f32⟩ : BufTy).Contents (Elt F)),
    binary main_v19 main_arg0 main_v20 (subf : (⟨S4x256x8x32x32, .f32⟩ : BufTy).Contents (Elt F) → (⟨S4x256x8x32x32, .f32⟩ : BufTy).Contents (Elt F) → (⟨S4x256x8x32x32, .f32⟩ : BufTy).Contents (Elt F)),
    binary main_v20 main_v20 main_v21 (mulf : (⟨S4x256x8x32x32, .f32⟩ : BufTy).Contents (Elt F) → (⟨S4x256x8x32x32, .f32⟩ : BufTy).Contents (Elt F) → (⟨S4x256x8x32x32, .f32⟩ : BufTy).Contents (Elt F)),
    nullary main_cst_2 (constant S_ .f32 0x00000000#32),
    binary main_v21 main_cst_2 main_v22 ((fun x v => Host.reduceAdd x v reducesTo_S4x256x8x32x32_S_d0_1_2_3_4 h_S_) : (⟨S4x256x8x32x32, .f32⟩ : BufTy).Contents (Elt F) → (⟨S_, .f32⟩ : BufTy).Contents (Elt F) → (⟨S_, .f32⟩ : BufTy).Contents (Elt F)),
    nullary main_cst_3 (constant S_ .f32 0x4B000000#32),
    binary main_v22 main_cst_3 main_v23 (Host.divf : (⟨S_, .f32⟩ : BufTy).Contents (Elt F) → (⟨S_, .f32⟩ : BufTy).Contents (Elt F) → (⟨S_, .f32⟩ : BufTy).Contents (Elt F)),
    binary main_v19 main_arg0 main_v24 (subf : (⟨S4x256x8x32x32, .f32⟩ : BufTy).Contents (Elt F) → (⟨S4x256x8x32x32, .f32⟩ : BufTy).Contents (Elt F) → (⟨S4x256x8x32x32, .f32⟩ : BufTy).Contents (Elt F)),
    binary main_v24 main_v24 main_v25 (mulf : (⟨S4x256x8x32x32, .f32⟩ : BufTy).Contents (Elt F) → (⟨S4x256x8x32x32, .f32⟩ : BufTy).Contents (Elt F) → (⟨S4x256x8x32x32, .f32⟩ : BufTy).Contents (Elt F)),
    nullary main_cst_4 (constant S_ .f32 0x00000000#32),
    binary main_v25 main_cst_4 main_v26 ((fun x v => Host.reduceAdd x v reducesTo_S4x256x8x32x32_S_d0_1_2_3_4 h_S_) : (⟨S4x256x8x32x32, .f32⟩ : BufTy).Contents (Elt F) → (⟨S_, .f32⟩ : BufTy).Contents (Elt F) → (⟨S_, .f32⟩ : BufTy).Contents (Elt F)),
    nullary main_cst_5 (constant S_ .f32 0x4B000000#32),
    binary main_v26 main_cst_5 main_v27 (Host.divf : (⟨S_, .f32⟩ : BufTy).Contents (Elt F) → (⟨S_, .f32⟩ : BufTy).Contents (Elt F) → (⟨S_, .f32⟩ : BufTy).Contents (Elt F)),
    nullary main_cst_6 (constant S_ .f32 0x3E800000#32),
    binary main_cst_6 main_v23 main_v28 (mulf : (⟨S_, .f32⟩ : BufTy).Contents (Elt F) → (⟨S_, .f32⟩ : BufTy).Contents (Elt F) → (⟨S_, .f32⟩ : BufTy).Contents (Elt F)),
    binary main_v27 main_v28 main_v29 (addf : (⟨S_, .f32⟩ : BufTy).Contents (Elt F) → (⟨S_, .f32⟩ : BufTy).Contents (Elt F) → (⟨S_, .f32⟩ : BufTy).Contents (Elt F)),
    binary main_v19 main_arg0 main_v30 (subf : (⟨S4x256x8x32x32, .f32⟩ : BufTy).Contents (Elt F) → (⟨S4x256x8x32x32, .f32⟩ : BufTy).Contents (Elt F) → (⟨S4x256x8x32x32, .f32⟩ : BufTy).Contents (Elt F)),
    binary main_arg0 main_v30 main_v31 (addf : (⟨S4x256x8x32x32, .f32⟩ : BufTy).Contents (Elt F) → (⟨S4x256x8x32x32, .f32⟩ : BufTy).Contents (Elt F) → (⟨S4x256x8x32x32, .f32⟩ : BufTy).Contents (Elt F)) ]

set_option maxRecDepth 8192 in
/-- They touch TensorCore references only. -/
theorem opsLoss_sub : (opsLoss : List (HloOp τ sig (Elt F))).Forall fun op => op.bufs ⊆ tcRefs τ sig :=
  ⟨reshape_bufs_sub .., unary_bufs_sub .., binary_bufs_sub .., binary_bufs_sub .., nullary_bufs_sub .., binary_bufs_sub .., nullary_bufs_sub .., binary_bufs_sub .., binary_bufs_sub .., binary_bufs_sub .., nullary_bufs_sub .., binary_bufs_sub .., nullary_bufs_sub .., binary_bufs_sub .., nullary_bufs_sub .., binary_bufs_sub .., binary_bufs_sub .., binary_bufs_sub .., binary_bufs_sub ..⟩

/-- The operations of the one-hot rows, their mean and the perplexity. -/
def opsPerp : List (HloOp τ sig (Elt F)) :=
  [ TRef.unary (TRef.of (T := ⟨S32768, .i32⟩) main_v16) (TRef.of (T := ⟨S32768x1, .i32⟩) main_call2_v0) (broadcastInDim S32768x1 ![0] bcast_S32768_S32768x1_0),
    TRef.nullary (TRef.of (T := ⟨S1x1024, .i32⟩) main_call2_v1) (iotaInDim S1x1024 32 1),
    TRef.unary (TRef.of (T := ⟨S32768x1, .i32⟩) main_call2_v0) (TRef.of (T := ⟨S32768x1024, .i32⟩) main_call2_v2) (broadcastInDim S32768x1024 ![0, 1] bcast_S32768x1_S32768x1024_0_1),
    TRef.unary (TRef.of (T := ⟨S1x1024, .i32⟩) main_call2_v1) (TRef.of (T := ⟨S32768x1024, .i32⟩) main_call2_v3) (broadcastInDim S32768x1024 ![0, 1] bcast_S1x1024_S32768x1024_0_1),
    TRef.binary (TRef.of (T := ⟨S32768x1024, .i32⟩) main_call2_v2) (TRef.of (T := ⟨S32768x1024, .i32⟩) main_call2_v3) (TRef.of (T := ⟨S32768x1024, .i1⟩) main_call2_v4) (cmpi .eq),
    TRef.unary (TRef.of (T := ⟨S32768x1024, .i1⟩) main_call2_v4) (TRef.of (T := ⟨S32768x1024, .f32⟩) main_v32) (uitofp .f32),
    nullary main_cst_7 (constant S_ .f32 0x00000000#32),
    binary main_v32 main_cst_7 main_v33 ((fun x v => Host.reduceAdd x v reducesTo_S32768x1024_S1024_d0 h_S_) : (⟨S32768x1024, .f32⟩ : BufTy).Contents (Elt F) → (⟨S_, .f32⟩ : BufTy).Contents (Elt F) → (⟨S1024, .f32⟩ : BufTy).Contents (Elt F)),
    nullary main_cst_8 (constant S_ .f32 0x47000000#32),
    unary main_cst_8 main_v34 (broadcastInDim S1024 ![] bcast_S_S1024 : (⟨S_, .f32⟩ : BufTy).Contents (Elt F) → (⟨S1024, .f32⟩ : BufTy).Contents (Elt F)),
    binary main_v33 main_v34 main_v35 (Host.divf : (⟨S1024, .f32⟩ : BufTy).Contents (Elt F) → (⟨S1024, .f32⟩ : BufTy).Contents (Elt F) → (⟨S1024, .f32⟩ : BufTy).Contents (Elt F)),
    nullary main_cst_9 (constant S_ .f32 0x2EDBE6FF#32),
    unary main_cst_9 main_v36 (broadcastInDim S1024 ![] bcast_S_S1024 : (⟨S_, .f32⟩ : BufTy).Contents (Elt F) → (⟨S1024, .f32⟩ : BufTy).Contents (Elt F)),
    binary main_v35 main_v36 main_v37 (addf : (⟨S1024, .f32⟩ : BufTy).Contents (Elt F) → (⟨S1024, .f32⟩ : BufTy).Contents (Elt F) → (⟨S1024, .f32⟩ : BufTy).Contents (Elt F)),
    unary main_v37 main_v38 (Host.log : (⟨S1024, .f32⟩ : BufTy).Contents (Elt F) → (⟨S1024, .f32⟩ : BufTy).Contents (Elt F)),
    binary main_v35 main_v38 main_v39 (mulf : (⟨S1024, .f32⟩ : BufTy).Contents (Elt F) → (⟨S1024, .f32⟩ : BufTy).Contents (Elt F) → (⟨S1024, .f32⟩ : BufTy).Contents (Elt F)),
    nullary main_cst_10 (constant S_ .f32 0x00000000#32),
    binary main_v39 main_cst_10 main_v40 ((fun x v => Host.reduceAdd x v reducesTo_S1024_S_d0 h_S_) : (⟨S1024, .f32⟩ : BufTy).Contents (Elt F) → (⟨S_, .f32⟩ : BufTy).Contents (Elt F) → (⟨S_, .f32⟩ : BufTy).Contents (Elt F)),
    unary main_v40 main_v41 (Host.negf : (⟨S_, .f32⟩ : BufTy).Contents (Elt F) → (⟨S_, .f32⟩ : BufTy).Contents (Elt F)),
    unary main_v41 main_v42 (Host.exp : (⟨S_, .f32⟩ : BufTy).Contents (Elt F) → (⟨S_, .f32⟩ : BufTy).Contents (Elt F)) ]

set_option maxRecDepth 8192 in
/-- They touch TensorCore references only. -/
theorem opsPerp_sub : (opsPerp : List (HloOp τ sig (Elt F))).Forall fun op => op.bufs ⊆ tcRefs τ sig :=
  ⟨unary_bufs_sub .., nullary_bufs_sub .., unary_bufs_sub .., unary_bufs_sub .., binary_bufs_sub .., unary_bufs_sub .., nullary_bufs_sub .., binary_bufs_sub .., nullary_bufs_sub .., unary_bufs_sub .., binary_bufs_sub .., nullary_bufs_sub .., unary_bufs_sub .., binary_bufs_sub .., unary_bufs_sub .., binary_bufs_sub .., nullary_bufs_sub .., binary_bufs_sub .., unary_bufs_sub .., unary_bufs_sub ..⟩

/-! ## Each step read back -/

set_option maxRecDepth 8192 in
/-- The step leaves the distances in `main_v15`. -/
theorem opsDist_v15 (V : Valuation τ sig (Elt F)) : after opsDist V (main_v15 : DevRef τ sig) = dist (zFlat (V (main_arg0 : DevRef τ sig))) (V (main_arg1 : DevRef τ sig)) := by
  simp only [opsDist, TRef.binary, TRef.nullary, TRef.ternary, TRef.unary, TRef.quaternary, TRef.toBuf, TRef.ofBuf, cast_eq]
  after_results_simp
  rfl

set_option maxRecDepth 8192 in
/-- The step keeps the first argument. -/
theorem opsDist_arg0 (V : Valuation τ sig (Elt F)) : after opsDist V (main_arg0 : DevRef τ sig) = V (main_arg0 : DevRef τ sig) := by
  simp only [opsDist, TRef.binary, TRef.nullary, TRef.ternary, TRef.unary, TRef.quaternary, TRef.toBuf, TRef.ofBuf, cast_eq]
  after_results_simp

set_option maxRecDepth 8192 in
/-- The step keeps the second argument. -/
theorem opsDist_arg1 (V : Valuation τ sig (Elt F)) : after opsDist V (main_arg1 : DevRef τ sig) = V (main_arg1 : DevRef τ sig) := by
  simp only [opsDist, TRef.binary, TRef.nullary, TRef.ternary, TRef.unary, TRef.quaternary, TRef.toBuf, TRef.ofBuf, cast_eq]
  after_results_simp

set_option maxRecDepth 8192 in
/-- The step leaves the indices in `main_v16`. -/
theorem opsArgmin_v16 (V : Valuation τ sig (Elt F)) : after opsArgmin V (main_v16 : DevRef τ sig) = argminOf (V (main_v15 : DevRef τ sig)) := by
  simp only [opsArgmin, TRef.binary, TRef.nullary, TRef.ternary, TRef.unary, TRef.quaternary, TRef.toBuf, TRef.ofBuf, cast_eq]
  after_results_simp
  rfl

set_option maxRecDepth 8192 in
/-- The step keeps the first argument. -/
theorem opsArgmin_arg0 (V : Valuation τ sig (Elt F)) : after opsArgmin V (main_arg0 : DevRef τ sig) = V (main_arg0 : DevRef τ sig) := by
  simp only [opsArgmin, TRef.binary, TRef.nullary, TRef.ternary, TRef.unary, TRef.quaternary, TRef.toBuf, TRef.ofBuf, cast_eq]
  after_results_simp

set_option maxRecDepth 8192 in
/-- The step keeps the second argument. -/
theorem opsArgmin_arg1 (V : Valuation τ sig (Elt F)) : after opsArgmin V (main_arg1 : DevRef τ sig) = V (main_arg1 : DevRef τ sig) := by
  simp only [opsArgmin, TRef.binary, TRef.nullary, TRef.ternary, TRef.unary, TRef.quaternary, TRef.toBuf, TRef.ofBuf, cast_eq]
  after_results_simp

set_option maxRecDepth 8192 in
/-- The step leaves the codes in `main_v17`. -/
theorem opsTake_v17 (V : Valuation τ sig (Elt F)) : after opsTake V (main_v17 : DevRef τ sig) = takeOf (V (main_arg1 : DevRef τ sig)) (V (main_v16 : DevRef τ sig)) := by
  simp only [opsTake, TRef.binary, TRef.nullary, TRef.ternary, TRef.unary, TRef.quaternary, TRef.toBuf, TRef.ofBuf, cast_eq]
  after_results_simp
  rfl

set_option maxRecDepth 8192 in
/-- The step keeps the first argument. -/
theorem opsTake_arg0 (V : Valuation τ sig (Elt F)) : after opsTake V (main_arg0 : DevRef τ sig) = V (main_arg0 : DevRef τ sig) := by
  simp only [opsTake, TRef.binary, TRef.nullary, TRef.ternary, TRef.unary, TRef.quaternary, TRef.toBuf, TRef.ofBuf, cast_eq]
  after_results_simp

set_option maxRecDepth 8192 in
/-- The step keeps the second argument. -/
theorem opsTake_arg1 (V : Valuation τ sig (Elt F)) : after opsTake V (main_arg1 : DevRef τ sig) = V (main_arg1 : DevRef τ sig) := by
  simp only [opsTake, TRef.binary, TRef.nullary, TRef.ternary, TRef.unary, TRef.quaternary, TRef.toBuf, TRef.ofBuf, cast_eq]
  after_results_simp

set_option maxRecDepth 8192 in
/-- The step keeps the indices. -/
theorem opsTake_v16 (V : Valuation τ sig (Elt F)) : after opsTake V (main_v16 : DevRef τ sig) = V (main_v16 : DevRef τ sig) := by
  simp only [opsTake, TRef.binary, TRef.nullary, TRef.ternary, TRef.unary, TRef.quaternary, TRef.toBuf, TRef.ofBuf, cast_eq]
  after_results_simp

set_option maxRecDepth 8192 in
/-- The step leaves the loss in `main_v29`. -/
theorem opsLoss_v29 (V : Valuation τ sig (Elt F)) : after opsLoss V (main_v29 : DevRef τ sig) = lossOf (unflat (V (main_v17 : DevRef τ sig))) (V (main_arg0 : DevRef τ sig)) := by
  simp only [opsLoss, TRef.binary, TRef.nullary, TRef.ternary, TRef.unary, TRef.quaternary, TRef.toBuf, TRef.ofBuf, cast_eq]
  after_results_simp
  rfl

set_option maxRecDepth 8192 in
/-- The step leaves the straight-through result in `main_v31`. -/
theorem opsLoss_v31 (V : Valuation τ sig (Elt F)) : after opsLoss V (main_v31 : DevRef τ sig) = throughOf (unflat (V (main_v17 : DevRef τ sig))) (V (main_arg0 : DevRef τ sig)) := by
  simp only [opsLoss, TRef.binary, TRef.nullary, TRef.ternary, TRef.unary, TRef.quaternary, TRef.toBuf, TRef.ofBuf, cast_eq]
  after_results_simp
  rfl

set_option maxRecDepth 8192 in
/-- The step keeps the first argument. -/
theorem opsLoss_arg0 (V : Valuation τ sig (Elt F)) : after opsLoss V (main_arg0 : DevRef τ sig) = V (main_arg0 : DevRef τ sig) := by
  simp only [opsLoss, TRef.binary, TRef.nullary, TRef.ternary, TRef.unary, TRef.quaternary, TRef.toBuf, TRef.ofBuf, cast_eq]
  after_results_simp

set_option maxRecDepth 8192 in
/-- The step keeps the second argument. -/
theorem opsLoss_arg1 (V : Valuation τ sig (Elt F)) : after opsLoss V (main_arg1 : DevRef τ sig) = V (main_arg1 : DevRef τ sig) := by
  simp only [opsLoss, TRef.binary, TRef.nullary, TRef.ternary, TRef.unary, TRef.quaternary, TRef.toBuf, TRef.ofBuf, cast_eq]
  after_results_simp

set_option maxRecDepth 8192 in
/-- The step keeps the indices. -/
theorem opsLoss_v16 (V : Valuation τ sig (Elt F)) : after opsLoss V (main_v16 : DevRef τ sig) = V (main_v16 : DevRef τ sig) := by
  simp only [opsLoss, TRef.binary, TRef.nullary, TRef.ternary, TRef.unary, TRef.quaternary, TRef.toBuf, TRef.ofBuf, cast_eq]
  after_results_simp

set_option maxRecDepth 8192 in
/-- The step leaves the perplexity in `main_v42`. -/
theorem opsPerp_v42 (V : Valuation τ sig (Elt F)) : after opsPerp V (main_v42 : DevRef τ sig) = perpOf (shareOf (V (main_v16 : DevRef τ sig))) := by
  simp only [opsPerp, TRef.binary, TRef.nullary, TRef.ternary, TRef.unary, TRef.quaternary, TRef.toBuf, TRef.ofBuf, cast_eq]
  after_results_simp
  rfl

set_option maxRecDepth 8192 in
/-- The step keeps the first argument. -/
theorem opsPerp_arg0 (V : Valuation τ sig (Elt F)) : after opsPerp V (main_arg0 : DevRef τ sig) = V (main_arg0 : DevRef τ sig) := by
  simp only [opsPerp, TRef.binary, TRef.nullary, TRef.ternary, TRef.unary, TRef.quaternary, TRef.toBuf, TRef.ofBuf, cast_eq]
  after_results_simp

set_option maxRecDepth 8192 in
/-- The step keeps the second argument. -/
theorem opsPerp_arg1 (V : Valuation τ sig (Elt F)) : after opsPerp V (main_arg1 : DevRef τ sig) = V (main_arg1 : DevRef τ sig) := by
  simp only [opsPerp, TRef.binary, TRef.nullary, TRef.ternary, TRef.unary, TRef.quaternary, TRef.toBuf, TRef.ofBuf, cast_eq]
  after_results_simp

set_option maxRecDepth 8192 in
/-- The step keeps the indices. -/
theorem opsPerp_v16 (V : Valuation τ sig (Elt F)) : after opsPerp V (main_v16 : DevRef τ sig) = V (main_v16 : DevRef τ sig) := by
  simp only [opsPerp, TRef.binary, TRef.nullary, TRef.ternary, TRef.unary, TRef.quaternary, TRef.toBuf, TRef.ofBuf, cast_eq]
  after_results_simp

set_option maxRecDepth 8192 in
/-- The step keeps the loss. -/
theorem opsPerp_v29 (V : Valuation τ sig (Elt F)) : after opsPerp V (main_v29 : DevRef τ sig) = V (main_v29 : DevRef τ sig) := by
  simp only [opsPerp, TRef.binary, TRef.nullary, TRef.ternary, TRef.unary, TRef.quaternary, TRef.toBuf, TRef.ofBuf, cast_eq]
  after_results_simp

set_option maxRecDepth 8192 in
/-- The step keeps the straight-through result. -/
theorem opsPerp_v31 (V : Valuation τ sig (Elt F)) : after opsPerp V (main_v31 : DevRef τ sig) = V (main_v31 : DevRef τ sig) := by
  simp only [opsPerp, TRef.binary, TRef.nullary, TRef.ternary, TRef.unary, TRef.quaternary, TRef.toBuf, TRef.ofBuf, cast_eq]
  after_results_simp

/-! ## The run -/

/-- @main's operations, in order. -/
def ops : List (HloOp τ sig (Elt F)) := opsDist ++ (opsArgmin ++ (opsTake ++ (opsLoss ++ opsPerp)))

set_option maxRecDepth 8192 in
set_option maxHeartbeats 4000000 in
/-- @main is that straight line. -/
theorem main_eq (c : Dev nD) : main (F := F) c = seq ops := rfl

/-- Nothing is scoped on this signature. -/
theorem scopedRefs_eq : (Finset.univ.filter fun b : Ref sig .tc => b.isScoped) = ∅ := by decide
/-- No semaphore is. -/
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig := by
  simp only [ops, List.forall_append]
  exact ⟨opsDist_sub, opsArgmin_sub, opsTake_sub, opsLoss_sub, opsPerp_sub⟩

/-- The indices, of the arguments. -/
def ixOf (z : FVec F S4x256x8x32x32 .f32) (e : FVec F S1024x256 .f32) : IVec S32768 32 := argminOf (dist (zFlat z) e)

/-- The codes in the layout of the first argument, of the arguments. -/
def qOf (z : FVec F S4x256x8x32x32 .f32) (e : FVec F S1024x256 .f32) : FVec F S4x256x8x32x32 .f32 := unflat (takeOf e (ixOf z e))

/-- What the whole line leaves in `main_v31`: the straight-through result. -/
theorem ops_v31 (V : Valuation τ sig (Elt F)) : after ops V (main_v31 : DevRef τ sig) = throughOf (qOf (V (main_arg0 : DevRef τ sig)) (V (main_arg1 : DevRef τ sig))) (V (main_arg0 : DevRef τ sig)) := by
  unfold ops
  rw [after_append, after_append, after_append, after_append, opsPerp_v31, opsLoss_v31, opsTake_v17, opsTake_arg0, opsArgmin_v16, opsArgmin_arg0, opsArgmin_arg1, opsDist_v15, opsDist_arg0, opsDist_arg1]
  rfl

/-- What the whole line leaves in `main_v29`: the loss. -/
theorem ops_v29 (V : Valuation τ sig (Elt F)) : after ops V (main_v29 : DevRef τ sig) = lossOf (qOf (V (main_arg0 : DevRef τ sig)) (V (main_arg1 : DevRef τ sig))) (V (main_arg0 : DevRef τ sig)) := by
  unfold ops
  rw [after_append, after_append, after_append, after_append, opsPerp_v29, opsLoss_v29, opsTake_v17, opsTake_arg0, opsArgmin_v16, opsArgmin_arg0, opsArgmin_arg1, opsDist_v15, opsDist_arg0, opsDist_arg1]
  rfl

/-- What the whole line leaves in `main_v16`: the indices. -/
theorem ops_v16 (V : Valuation τ sig (Elt F)) : after ops V (main_v16 : DevRef τ sig) = ixOf (V (main_arg0 : DevRef τ sig)) (V (main_arg1 : DevRef τ sig)) := by
  unfold ops
  rw [after_append, after_append, after_append, after_append, opsPerp_v16, opsLoss_v16, opsTake_v16, opsArgmin_v16, opsDist_v15]
  rfl

/-- What the whole line leaves in `main_v42`: the perplexity. -/
theorem ops_v42 (V : Valuation τ sig (Elt F)) : after ops V (main_v42 : DevRef τ sig) = perpOf (shareOf (ixOf (V (main_arg0 : DevRef τ sig)) (V (main_arg1 : DevRef τ sig)))) := by
  unfold ops
  rw [after_append, after_append, after_append, after_append, opsPerp_v42, opsLoss_v16, opsTake_v16, opsArgmin_v16, opsDist_v15]
  rfl

/-- What the whole line leaves in `main_arg0`: the first argument. -/
theorem ops_arg0 (V : Valuation τ sig (Elt F)) : after ops V (main_arg0 : DevRef τ sig) = (V (main_arg0 : DevRef τ sig)) := by
  unfold ops
  rw [after_append, after_append, after_append, after_append, opsPerp_arg0, opsLoss_arg0, opsTake_arg0, opsArgmin_arg0, opsDist_arg0]

/-- What the whole line leaves in `main_arg1`: the second argument. -/
theorem ops_arg1 (V : Valuation τ sig (Elt F)) : after ops V (main_arg1 : DevRef τ sig) = (V (main_arg1 : DevRef τ sig)) := by
  unfold ops
  rw [after_append, after_append, after_append, after_append, opsPerp_arg1, opsLoss_arg1, opsTake_arg1, opsArgmin_arg1, opsDist_arg1]

/-- From any memory with zero counters every weakly fair execution of @main terminates with each result buffer at the named
    functions of the arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v31) = throughOf (qOf (m ((c.tc : Thread nD τ).loc main_arg0)) (m ((c.tc : Thread nD τ).loc main_arg1))) (m ((c.tc : Thread nD τ).loc main_arg0))
      ∧ r.2.mem ((c.tc : Thread nD τ).loc main_v29) = lossOf (qOf (m ((c.tc : Thread nD τ).loc main_arg0)) (m ((c.tc : Thread nD τ).loc main_arg1))) (m ((c.tc : Thread nD τ).loc main_arg0))
      ∧ r.2.mem ((c.tc : Thread nD τ).loc main_v16) = ixOf (m ((c.tc : Thread nD τ).loc main_arg0)) (m ((c.tc : Thread nD τ).loc main_arg1))
      ∧ r.2.mem ((c.tc : Thread nD τ).loc main_v42) = perpOf (shareOf (ixOf (m ((c.tc : Thread nD τ).loc main_arg0)) (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ?_)
    (run_seq scopedRefs_eq scopedSems_eq defs main (fun _ => ops) main_eq (fun _ => ops_sub) m ρ)
  exact ⟨(h c main_v31).trans (ops_v31 _), (h c main_v29).trans (ops_v29 _), (h c main_v16).trans (ops_v16 _),
    (h c main_v42).trans (ops_v42 _), (h c main_arg0).trans (ops_arg0 _), (h c main_arg1).trans (ops_arg1 _)⟩

end Cert.Proof.Ref

end
-- ==== Proof.RefIdx.lean ====
/-
  The reference's index of a row: the first place where the row of distances is least, whatever order the fold of the argmin
  runs in; and the codebook row that such an index names.
-/
module

public import proofs.«01_k».proof.Proof.RefRun
public import proofs.«01_k».proof.Proof.First
public import proofs.«01_k».proof.Proof.Tile
public import Idealize.ShloMosaic.Lib.Pointwise
public import Idealize.ShloMosaic.Lib.ReduceAll
public import Idealize.ShloMosaic.Lib.Routing.Ops

@[expose] public section

set_option maxRecDepth 16384

noncomputable section

namespace Cert.Proof.RefIdx

open Cert.ReferenceIdeal Cert.ReferenceIdeal.Gen Idealize.ShloMosaic Idealize.ShloMosaic.Pointwise Cert.Proof.Ref Cert.Proof.First

/-! ## The argmin -/

/-- The reducer keeps its first pair when that one's distance is smaller. -/
theorem red_lt (p q : EReal × BitVec 32) (h : p.1 < q.1) : reducer_argmin_f32_i32 (F := Ideal) p q = p := by
  have e : ¬ p.1 = q.1 := h.ne
  refine Prod.ext ?_ ?_ <;>
    simp [reducer_argmin_f32_i32, Ideal.cmpf_def, Ideal.cmp, h, e, IntOp.ori, IntOp.andi, Scalar.select]

/-- The reducer keeps its first pair when the distances agree and that one's index is smaller. -/
theorem red_eq (p q : EReal × BitVec 32) (h : p.1 = q.1) (hi : p.2.slt q.2 = true) : reducer_argmin_f32_i32 (F := Ideal) p q = p := by
  refine Prod.ext ?_ ?_ <;>
    simp [reducer_argmin_f32_i32, Ideal.cmpf_def, Ideal.cmp, h, hi, IntOp.ori, IntOp.andi, IntOp.cmpi, Scalar.select]

/-- In every other case the reducer keeps its second pair. -/
theorem red_else (p q : EReal × BitVec 32) (h : ¬ p.1 < q.1) (hi : p.1 = q.1 → p.2.slt q.2 = false) :
    reducer_argmin_f32_i32 (F := Ideal) p q = q := by
  by_cases e : p.1 = q.1
  · have := hi e
    refine Prod.ext ?_ ?_ <;>
      simp [reducer_argmin_f32_i32, Ideal.cmpf_def, Ideal.cmp, h, e, this, IntOp.ori, IntOp.andi, IntOp.cmpi, Scalar.select]
  · refine Prod.ext ?_ ?_ <;>
      simp [reducer_argmin_f32_i32, Ideal.cmpf_def, Ideal.cmp, h, e, IntOp.ori, IntOp.andi, IntOp.cmpi, Scalar.select]

/-- The reducer keeps one of its two pairs. -/
theorem red_pick (p q : EReal × BitVec 32) :
    reducer_argmin_f32_i32 (F := Ideal) p q = p ∨ reducer_argmin_f32_i32 (F := Ideal) p q = q := by
  by_cases h : p.1 < q.1
  · exact .inl (red_lt p q h)
  · by_cases hi : p.1 = q.1 ∧ p.2.slt q.2 = true
    · exact .inl (red_eq p q hi.1 hi.2)
    · exact .inr (red_else p q h fun e => by simpa [e] using hi)

/-- The pair of a row's first least place. -/
def best (r : Fin 1024 → EReal) : EReal × BitVec 32 := (r (firstMin r), BitVec.ofNat 32 (firstMin r).val)

/-- That pair wins against every pair of the row. -/
theorem best_wins (r : Fin 1024 → EReal) (k : Fin 1024) :
    reducer_argmin_f32_i32 (F := Ideal) (r k, BitVec.ofNat 32 k.val) (best r) = best r ∧
      reducer_argmin_f32_i32 (F := Ideal) (best r) (r k, BitVec.ofNat 32 k.val) = best r := by
  have hk := k.isLt
  have hb := (firstMin r).isLt
  have hle := firstMin_le r k
  constructor
  · refine red_else _ _ (not_lt.2 hle) fun e => ?_
    show (BitVec.ofNat 32 k.val).slt (BitVec.ofNat 32 (firstMin r).val) = false
    rw [slt_word _ _ (by omega) (by omega)]
    have := Fin.le_def.1 (firstMin_le_of_eq r k e)
    simp; omega
  · rcases hle.lt_or_eq with h | h
    · exact red_lt _ _ h
    · rcases (Fin.le_def.1 (firstMin_le_of_eq r k h.symm)).lt_or_eq with h' | h'
      · refine red_eq _ _ h ?_
        show (BitVec.ofNat 32 (firstMin r).val).slt (BitVec.ofNat 32 k.val) = true
        rw [slt_word _ _ (by omega) (by omega)]
        simpa using h'
      · have e : k = firstMin r := Fin.ext h'.symm
        subst e
        rcases red_pick (best r) (best r) with h | h <;> exact h

/-- It also wins against the starting pair, whose distance is the top. -/
theorem best_top (r : Fin 1024 → EReal) (h : r (firstMin r) < ⊤) (w : BitVec 32) :
    reducer_argmin_f32_i32 (F := Ideal) (⊤, w) (best r) = best r ∧ reducer_argmin_f32_i32 (F := Ideal) (best r) (⊤, w) = best r :=
  ⟨red_else _ _ (not_lt.2 le_top) fun e => absurd e.symm h.ne, red_lt _ _ h⟩

/-- The pairs an arg-reduce folds over at a result index are those of the operand's indices that drop to it. -/
theorem of_mem_fiber {s t : Shape} {axes : List (Fin s.rank)} {α β : Type} (x : s.Idx → α) (y : s.Idx → β) (h : s.ReducesTo axes t)
    (j : t.Idx) (w : α × β) (hw : w ∈ Host.argReduceFiber x y h j) : ∃ i, h.drop i = j ∧ w = (x i, y i) := by
  obtain ⟨p, hp, rfl⟩ := List.mem_map.1 hw
  exact ⟨_, of_decide_eq_true (List.mem_filter.1 hp).2, rfl⟩

/-- Each operand index that drops to a result index gives one of the pairs. -/
theorem mem_fiber {s t : Shape} {axes : List (Fin s.rank)} {α β : Type} (x : s.Idx → α) (y : s.Idx → β) (h : s.ReducesTo axes t)
    (j : t.Idx) (i : s.Idx) (hi : h.drop i = j) : (x i, y i) ∈ Host.argReduceFiber x y h j :=
  List.mem_map.2 ⟨s.rowMajor i, List.mem_filter.2 ⟨List.mem_finRange _, by rw [Equiv.symm_apply_apply]; exact decide_eq_true hi⟩,
    by rw [Equiv.symm_apply_apply]⟩

/-- Dropping the second coordinate leaves the first. -/
theorem drop_row (n : Fin 32768) (k : Fin 1024) : reducesTo_S32768x1024_S32768_d1.drop (ix2 n k) = ix1 n := by
  funext a
  have ha : a = 0 := Subsingleton.elim _ _
  subst ha
  exact Fin.ext (Shape.ReducesTo.drop_apply_val_of_eq reducesTo_S32768x1024_S32768_d1 (ix2 n k) 0 0)

/-- A fold of the reducer over pairs of a row, among them the best one, ends at the best one. -/
theorem fold_best (r : Fin 1024 → EReal) (h : r (firstMin r) < ⊤) (w0 : BitVec 32) (l : List (EReal × BitVec 32))
    (hl : ∀ w ∈ l, ∃ k : Fin 1024, w = (r k, BitVec.ofNat 32 k.val)) (hb : best r ∈ l) :
    l.foldl (reducer_argmin_f32_i32 (F := Ideal)) (⊤, w0) = best r := by
  refine foldl_wins (reducer_argmin_f32_i32 (F := Ideal)) (best r) red_pick l _ ?_ (.inr hb)
  rintro w (rfl | hw)
  · exact best_top r h w0
  · obtain ⟨k, rfl⟩ := hl w hw
    exact best_wins r k

/-- An arg-reduce over the pairs of one row gives the best of them. -/
theorem argReduce_best {s t u : Shape} {axes : List (Fin s.rank)} (x : FVec Ideal s .f32) (y : IVec s 32) (ix : FVec Ideal u .f32) (iy : IVec u 32)
    (h : s.ReducesTo axes t) (hu : 0 < u.numel) (j : t.Idx) (r : Fin 1024 → EReal) (hr : r (firstMin r) < ⊤)
    (hix : ix (Shape.Idx.first hu) = (⊤ : EReal))
    (hl : ∀ i, h.drop i = j → ∃ k : Fin 1024, x i = r k ∧ y i = BitVec.ofNat 32 k.val)
    (i0 : s.Idx) (hi0 : h.drop i0 = j) (hx0 : x i0 = r (firstMin r)) (hy0 : y i0 = BitVec.ofNat 32 (firstMin r).val) :
    Host.argReduce (reducer_argmin_f32_i32 (F := Ideal)) x y ix iy h hu j = best r := by
  rw [Ideal.argReduce_eq_reduce2, Host.reduce2_eq_foldl_fiber, hix]
  refine fold_best r hr _ _ (fun w hw => ?_) ?_
  · obtain ⟨i, hi, rfl⟩ := of_mem_fiber _ _ _ _ _ hw
    obtain ⟨k, h1, h2⟩ := hl i hi
    exact ⟨k, Prod.ext h1 h2⟩
  · have := mem_fiber x y h j i0 hi0
    rwa [hx0, hy0] at this

/-- A pair of the row of distances: its entry and the place it stands at. -/
theorem row_pair (d : FVec Ideal S32768x1024 .f32) (n : Fin 32768) (i : S32768x1024.Idx)
    (hi : reducesTo_S32768x1024_S32768_d1.drop i = ix1 n) :
    ∃ k : Fin 1024, d i = d (ix2 n k) ∧ iotaInDim S32768x1024 32 1 i = BitVec.ofNat 32 k.val := by
  have h0 : (i 0).val = n.val :=
    (Shape.ReducesTo.drop_apply_val_of_eq reducesTo_S32768x1024_S32768_d1 i 0 0).symm.trans (congrArg (fun y : S32768.Idx => (y 0).val) hi)
  have h1 : i 0 = n := Fin.ext h0
  refine ⟨i 1, ?_, rfl⟩
  rw [← h1]
  exact congrArg d (eq_ix2 i)

/-- The place an entry of the table of places holds. -/
theorem iota_apply (n : Fin 32768) (k : Fin 1024) : iotaInDim S32768x1024 32 1 (ix2 n k) = BitVec.ofNat 32 k.val := rfl

/-- The index of each row is the second half of its arg-reduce. -/
theorem argminOf_eq (d : FVec Ideal S32768x1024 .f32) : argminOf (F := Ideal) d = fun j =>
    (Host.argReduce (reducer_argmin_f32_i32 (F := Ideal)) d (iotaInDim S32768x1024 32 1) (constant S_ .f32 0x7F800000#32) (constantI S_ 32 0#32)
      reducesTo_S32768x1024_S32768_d1 h_S_ j).2 := by
  delta argminOf
  with_reducible rfl

/-- The reference's index of a row whose distances stay below the top is the first place where they are least. -/
theorem argminOf_apply (d : FVec Ideal S32768x1024 .f32) (n : Fin 32768) (hd : ∀ k : Fin 1024, d (ix2 n k) ≠ ⊤) :
    argminOf (F := Ideal) d (ix1 n) = BitVec.ofNat 32 (firstMin fun k => d (ix2 n k)).val := by
  have h := argReduce_best d (iotaInDim S32768x1024 32 1) (constant S_ .f32 0x7F800000#32) (constantI S_ 32 0#32)
    reducesTo_S32768x1024_S32768_d1 h_S_ (ix1 n) (fun k => d (ix2 n k)) (lt_top_iff_ne_top.2 (hd _)) Tile.ofBits_top
    (row_pair d n) (ix2 n (firstMin fun k => d (ix2 n k))) (drop_row _ _) rfl (iota_apply _ _)
  exact (congrFun (argminOf_eq d) (ix1 n)).trans (congrArg Prod.snd h)

/-! ## The codebook row -/

/-- The column of indices holds each index that names a code as it is. -/
theorem takeIx_apply (ix : IVec S32768 32) (n : Fin 32768) (k : Fin 1024) (h : ix (ix1 n) = BitVec.ofNat 32 k.val) (z : Fin 1) :
    takeIx ix (ix2 n z) = BitVec.ofNat 32 k.val := by
  have hk := k.isLt
  pointwise [takeIx]
  rw [h]
  have e : (BitVec.ofNat 32 k.val).slt 0#32 = false := by
    rw [show (0#32 : BitVec 32) = BitVec.ofNat 32 0 from rfl, slt_word _ _ (by omega) (by omega)]
    simp
  simp [IntOp.cmpi, Scalar.select, e]

/-- Every index names a code. -/
theorem takeOk_apply (ix : IVec S32768 32) (h : ∀ n : Fin 32768, ∃ k : Fin 1024, ix (ix1 n) = BitVec.ofNat 32 k.val) (n : Fin 32768) :
    takeOk ix (ix1 n) = 1#1 := by
  unfold takeOk
  refine Host.reduce_andi_one _ _ _ _ _ rfl fun i => ?_
  obtain ⟨k, hk⟩ := h (i 0)
  have hlt := k.isLt
  have e : takeIx ix i = BitVec.ofNat 32 k.val := by rw [eq_ix2 i]; exact takeIx_apply ix (i 0) k hk (i 1)
  pointwise
  rw [e]
  have e0 : (BitVec.ofNat 32 k.val).slt 0#32 = false := by
    rw [show (0#32 : BitVec 32) = BitVec.ofNat 32 0 from rfl, slt_word _ _ (by omega) (by omega)]
    simp
  have e1 : (1023#32).slt (BitVec.ofNat 32 k.val) = false := by
    rw [show (1023#32 : BitVec 32) = BitVec.ofNat 32 1023 from rfl, slt_word _ _ (by omega) (by omega)]
    simp; omega
  simp [IntOp.cmpi, IntOp.andi, BitVec.sle_eq_not_slt, e0, e1]

/-- The row taken at an index is the code that the index names. -/
theorem takeOf_apply (e : FVec Ideal S1024x256 .f32) (ix : IVec S32768 32) (f : Fin 32768 → Fin 1024)
    (h : ∀ n, ix (ix1 n) = BitVec.ofNat 32 (f n).val) (n : Fin 32768) (c : Fin 256) :
    takeOf e ix (ix2 n c) = e (ix2 (f n) c) := by
  have hok := takeOk_apply ix (fun n => ⟨f n, h n⟩) n
  have hix := takeIx_apply ix n (f n) (h n)
  unfold takeOf
  have hg : Host.gather gather_S1024x256_S32768x1_S32768x256_1_0_n_n_0_1_1256 e (takeIx ix) (ix2 n c) = e (ix2 (f n) c) := by
    have q : ∀ {a b : Nat} (x : Fin a) (y : Fin b), (ix2 x y : (⟨2, ![a, b]⟩ : Shape).Idx) = ValueIdx.ix2 x y := fun x y => by
      funext z
      match z with
      | ⟨0, _⟩ => rfl
      | ⟨1, _⟩ => rfl
    rw [q, q]
    refine Routing.gather_row gather_S1024x256_S32768x1_S32768x256_1_0_n_n_0_1_1256 rfl rfl rfl rfl rfl e (takeIx ix) n c (f n) ?_ (by norm_num)
    rw [← q]
    exact hix 0
  pointwise
  rw [hok, hg]
  rfl

end Cert.Proof.RefIdx

end
-- ==== Proof.Dist.lean ====
/-
  The kernel's distances and the reference's agree when the arguments are finite: the kernel scales the codes by minus two before
  the inner product, the reference scales the inner product by two and subtracts it.
-/
module

public import proofs.«01_k».proof.Proof.KRun
public import proofs.«01_k».proof.Proof.RefIdx

@[expose] public section

set_option maxRecDepth 16384

noncomputable section

namespace Cert.Proof.Dist

open Idealize.ShloMosaic Idealize.ShloMosaic.Pointwise Cert.Proof.Ref Cert.Proof.First Cert.Proof.Arrays Cert.Proof.KRun

/-! ## Finite values -/

/-- A value that is a real number. -/
def IsReal (x : EReal) : Prop := ∃ r : ℝ, x = (r : EReal)

/-- A value below the top in absolute value is a real number. -/
theorem isReal_of_abs_lt (x : EReal) (h : max x (-x) < ⊤) : IsReal x := by
  induction x with
  | bot => simp at h
  | top => simp at h
  | coe r => exact ⟨r, rfl⟩

/-- A real number is below the top. -/
theorem IsReal.ne_top {x : EReal} (h : IsReal x) : x ≠ ⊤ := by
  obtain ⟨r, rfl⟩ := h
  exact EReal.coe_ne_top r

/-- The sum of two reals is real. -/
theorem IsReal.add {x y : EReal} (hx : IsReal x) (hy : IsReal y) : IsReal (x + y) := by
  obtain ⟨a, rfl⟩ := hx
  obtain ⟨b, rfl⟩ := hy
  exact ⟨a + b, (EReal.coe_add a b).symm⟩

/-- The product of two reals is real. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- The difference of two reals is real. -/
theorem IsReal.sub {x y : EReal} (hx : IsReal x) (hy : IsReal y) : IsReal (x - y) := by
  obtain ⟨a, rfl⟩ := hx
  obtain ⟨b, rfl⟩ := hy
  exact ⟨a - b, (EReal.coe_sub a b).symm⟩

/-- A sum of reals is the real sum. -/
theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A sum of reals is real. -/
theorem isReal_sum {ι : Type} (s : Finset ι) (f : ι → EReal) (h : ∀ i, IsReal (f i)) : IsReal (∑ i ∈ s, f i) := by
  choose g hg using h
  refine ⟨∑ i ∈ s, g i, ?_⟩
  rw [← sum_coe]
  exact Finset.sum_congr rfl fun i _ => hg i

/-- The literal minus two. -/
theorem ofBits_neg_two : Ideal.ofBits .f32 0xC0000000#32 = ((-2 : ℝ) : EReal) := by
  simp [Ideal.ofBits, Ideal.ieee, -EReal.coe_mul]; norm_num

/-- The literal two. -/
theorem ofBits_two : Ideal.ofBits .f32 0x40000000#32 = ((2 : ℝ) : EReal) := by
  simp [Ideal.ofBits, Ideal.ieee, -EReal.coe_mul]; norm_num

/-- Scaling one factor of an inner product by minus two, or subtracting twice the inner product, is the same on reals. -/
theorem inner_scaled (a : EReal) (x e : Fin 256 → EReal) (hx : ∀ c, IsReal (x c)) (he : ∀ c, IsReal (e c)) :
    a + ∑ c, x c * (Ideal.ofBits .f32 0xC0000000#32 * e c) = a - Ideal.ofBits .f32 0x40000000#32 * ∑ c, x c * e c := by
  choose X hX using hx
  choose E hE using he
  rw [sub_eq_add_neg, ofBits_neg_two, ofBits_two]
  congr 1
  simp only [hX, hE, ← EReal.coe_mul]
  rw [sum_coe, sum_coe, ← EReal.coe_mul, ← EReal.coe_neg, EReal.coe_eq_coe_iff, Finset.mul_sum, ← Finset.sum_neg_distrib]
  exact Finset.sum_congr rfl fun c _ => by ring

/-! ## The two distances -/

section Kernel
open Cert.KernelIdeal Cert.KernelIdeal.Gen

/-- The kernel's squared length of a code. -/
theorem codeLen_apply (e : FVec Ideal S1024x256 .f32) (k : Fin 1024) :
    codeLen e (ix2 0 k) = ∑ c : Fin 256, e (ix2 k c) * e (ix2 k c) := by
  pointwise [codeLen]

/-- The kernel's scaled code entry. -/
theorem codeCols_apply (e : FVec Ideal S1024x256 .f32) (c : Fin 256) (k : Fin 1024) :
    codeCols e (ix2 c k) = Ideal.ofBits .f32 0xC0000000#32 * e (ix2 k c) := by
  pointwise [codeCols]

end Kernel

section Reference
open Cert.ReferenceIdeal Cert.ReferenceIdeal.Gen

/-- The reference's distance of a row to a code. -/
theorem dist_apply (x : FVec Ideal S32768x256 .f32) (e : FVec Ideal S1024x256 .f32) (n : Fin 32768) (k : Fin 1024) :
    Ref.dist x e (ix2 n k) = ((∑ c : Fin 256, x (ix2 n c) * x (ix2 n c)) + ∑ c : Fin 256, e (ix2 k c) * e (ix2 k c))
      - Ideal.ofBits .f32 0x40000000#32 * ∑ c : Fin 256, x (ix2 n c) * e (ix2 k c) := by
  pointwise [Ref.dist, rowSq, codeSq, Ref.inner]

/-- On real arguments the reference's distances are real. -/
theorem dist_real (x : FVec Ideal S32768x256 .f32) (e : FVec Ideal S1024x256 .f32) (hx : ∀ i, IsReal (x i)) (he : ∀ i, IsReal (e i))
    (n : Fin 32768) (k : Fin 1024) : IsReal (Ref.dist x e (ix2 n k)) := by
  rw [dist_apply]
  exact ((isReal_sum _ _ fun c => (hx _).mul (hx _)).add (isReal_sum _ _ fun c => (he _).mul (he _))).sub
    (IsReal.mul ⟨2, ofBits_two⟩ (isReal_sum _ _ fun c => (hx _).mul (he _)))

/-- On real arguments the kernel's distances are the reference's. -/
theorem gdist_eq (x : FVec Ideal S32768x256 .f32) (e : FVec Ideal S1024x256 .f32) (hx : ∀ i, IsReal (x i)) (he : ∀ i, IsReal (e i))
    (n : Fin 32768) : gdist (codeLen e) (codeCols e) x n = fun k => Ref.dist x e (ix2 n k) := by
  funext k
  rw [dist_apply]
  unfold gdist
  rw [codeLen_apply]
  simp only [codeCols_apply]
  exact inner_scaled _ (fun c => x (ix2 n c)) (fun c => e (ix2 k c)) (fun c => hx _) (fun c => he _)

/-- On real arguments the reference's index of a row is the code the kernel finds nearest. -/
theorem ix_eq (x : FVec Ideal S32768x256 .f32) (e : FVec Ideal S1024x256 .f32) (hx : ∀ i, IsReal (x i)) (he : ∀ i, IsReal (e i))
    (n : Fin 32768) : argminOf (Ref.dist x e) (ix1 n) = BitVec.ofNat 32 (gnear (codeLen e) (codeCols e) x n).val := by
  rw [RefIdx.argminOf_apply _ _ fun k => (dist_real x e hx he n k).ne_top]
  unfold gnear
  rw [gdist_eq x e hx he n]

end Reference

end Cert.Proof.Dist

end
-- ==== Proof.Layout.lean ====
/-
  The two layouts of the reference's large arrays: rows of channels, and the layout of the argument with the channel axis second.
  Each is a permutation of the other, so elementwise work and sums over all elements carry across.
-/
module

public import proofs.«01_k».proof.Proof.RefRun
public import Idealize.ShloMosaic.Lib.Pointwise
public import Idealize.ShloMosaic.Lib.Pipeline.Value

@[expose] public section

set_option maxRecDepth 16384

noncomputable section

namespace Cert.Proof.Layout

open Cert.ReferenceIdeal Cert.ReferenceIdeal.Gen Idealize.ShloMosaic Idealize.ShloMosaic.Pointwise Cert.Proof.Ref

/-- Moving the channel axis second and back last changes nothing. -/
theorem last_second (y : FVec Ideal S4x8x32x32x256 .f32) :
    transpose S4x8x32x32x256 [0, 2, 3, 4, 1] (transpose S4x256x8x32x32 [0, 4, 1, 2, 3] y transposes_S4x8x32x32x256_S4x256x8x32x32_0_4_1_2_3)
      transposes_S4x256x8x32x32_S4x8x32x32x256_0_2_3_4_1 = y := by
  funext j
  idx_vars j
  pointwise

/-- Moving the channel axis last and back second changes nothing. -/
theorem second_last (z : FVec Ideal S4x256x8x32x32 .f32) :
    transpose S4x256x8x32x32 [0, 4, 1, 2, 3] (transpose S4x8x32x32x256 [0, 2, 3, 4, 1] z transposes_S4x256x8x32x32_S4x8x32x32x256_0_2_3_4_1)
      transposes_S4x8x32x32x256_S4x256x8x32x32_0_4_1_2_3 = z := by
  funext j
  idx_vars j
  pointwise

/-- The rows of an array, put back, are the array. -/
theorem unflat_zFlat (z : FVec Ideal S4x256x8x32x32 .f32) : unflat (zFlat z) = z := by
  unfold unflat zFlat
  rw [shapeCast_shapeCast, second_last]

/-- The rows of rows put back are those rows. -/
theorem zFlat_unflat (q : FVec Ideal S32768x256 .f32) : zFlat (unflat q) = q := by
  unfold unflat zFlat
  rw [last_second, shapeCast_shapeCast]

/-- The place among the rows of a place in the layout of the argument. -/
def toRow (i : S4x256x8x32x32.Idx) : S32768x256.Idx :=
  Shape.reshapeEquiv shapeCasts_S32768x256_S4x8x32x32x256 (Shape.Transposes.src transposes_S4x8x32x32x256_S4x256x8x32x32_0_4_1_2_3 i)

/-- The place in the layout of the argument of a place among the rows. -/
def ofRow (j : S32768x256.Idx) : S4x256x8x32x32.Idx :=
  Shape.Transposes.src transposes_S4x256x8x32x32_S4x8x32x32x256_0_2_3_4_1 (Shape.reshapeEquiv shapeCasts_S4x8x32x32x256_S32768x256 j)

/-- Reading put-back rows at a place. -/
theorem unflat_at (q : FVec Ideal S32768x256 .f32) (i : S4x256x8x32x32.Idx) : unflat q i = q (toRow i) := rfl

/-- Reading the rows at a place. -/
theorem zFlat_at (z : FVec Ideal S4x256x8x32x32 .f32) (j : S32768x256.Idx) : zFlat z j = z (ofRow j) := rfl

/-- Indicators of places tell them apart. -/
theorem eq_of_reads {ι : Type} (a b : ι) (h : ∀ f : ι → EReal, f a = f b) : a = b := by
  classical
  have := h fun x => if x = a then 1 else 0
  by_contra hne
  simp [Ne.symm hne] at this

/-- A place in the layout of the argument, taken to the rows and back. -/
theorem ofRow_toRow (i : S4x256x8x32x32.Idx) : ofRow (toRow i) = i :=
  eq_of_reads _ _ fun f => congrFun (unflat_zFlat f) i

/-- A place among the rows, taken to the layout of the argument and back. -/
theorem toRow_ofRow (j : S32768x256.Idx) : toRow (ofRow j) = j :=
  eq_of_reads _ _ fun f => congrFun (zFlat_unflat f) j

/-- A sum over put-back rows is the sum over the rows. -/
theorem sum_unflat (q : FVec Ideal S32768x256 .f32) :
    (∑ i : S4x256x8x32x32.Idx, (unflat q i : EReal)) = ∑ n : Fin 32768, ∑ c : Fin 256, (q (ix2 n c) : EReal) := by
  refine (Fintype.sum_equiv ⟨toRow, ofRow, ofRow_toRow, toRow_ofRow⟩ _ (fun j : S32768x256.Idx => (q j : EReal)) fun i => unflat_at q i).trans ?_
  exact sum_idx2 (fun j : S32768x256.Idx => (q j : EReal))

/-- The straight-through result, row by row. -/
theorem through_unflat (q : FVec Ideal S32768x256 .f32) (z : FVec Ideal S4x256x8x32x32 .f32) :
    throughOf (unflat q) z = unflat (addf (zFlat z) (subf q (zFlat z))) := by
  conv_lhs => rw [← unflat_zFlat z]
  rfl

/-- The mean squared difference, row by row. -/
theorem mse_unflat (q : FVec Ideal S32768x256 .f32) (z : FVec Ideal S4x256x8x32x32 .f32) (j : S_.Idx) :
    mse (unflat q) z j = Ideal.div (∑ n : Fin 32768, ∑ c : Fin 256, ((q (ix2 n c) - zFlat z (ix2 n c)) * (q (ix2 n c) - zFlat z (ix2 n c)) : EReal))
      (Ideal.ofBits .f32 0x4B000000#32) := by
  have e : mulf (subf (unflat q) z) (subf (unflat q) z) = unflat (mulf (subf q (zFlat z)) (subf q (zFlat z))) := by
    conv_lhs => rw [← unflat_zFlat z]
    rfl
  have t : Host.reduceAdd (unflat (mulf (subf q (zFlat z)) (subf q (zFlat z)))) (constant (F := Ideal) S_ .f32 0x00000000#32)
      reducesTo_S4x256x8x32x32_S_d0_1_2_3_4 h_S_ j
      = Ideal.ofBits .f32 0x00000000#32 + ∑ i : S4x256x8x32x32.Idx, (unflat (mulf (subf q (zFlat z)) (subf q (zFlat z))) i : EReal) :=
    Ideal.hostReduceAdd_total reducesTo_S4x256x8x32x32_S_d0_1_2_3_4 (fun b => b.elim0) _ _ j
  unfold mse
  rw [e]
  show Ideal.div (Host.reduceAdd (unflat (mulf (subf q (zFlat z)) (subf q (zFlat z)))) (constant (F := Ideal) S_ .f32 0x00000000#32)
      reducesTo_S4x256x8x32x32_S_d0_1_2_3_4 h_S_ j) (Ideal.ofBits .f32 0x4B000000#32) = _
  rw [t, sum_unflat, Ideal.ofBits_zero_f32, zero_add]
  rfl

end Cert.Proof.Layout

end
-- ==== Proof.Final.lean ====
/-
  The kernel's four results are the reference's, on real arguments.
-/
module

public import proofs.«01_k».proof.Proof.Dist
public import proofs.«01_k».proof.Proof.Layout

@[expose] public section

set_option maxRecDepth 16384

noncomputable section

namespace Cert.Proof.Final

open Cert.ReferenceIdeal Cert.ReferenceIdeal.Gen
open Idealize.ShloMosaic Idealize.ShloMosaic.Pointwise Cert.Proof.Ref Cert.Proof.First Cert.Proof.Arrays Cert.Proof.KRun Cert.Proof.Dist

/-! ## The reference's shares and perplexity at an index -/

/-- The word of a place equals the word of another exactly when the places agree. -/
theorem word_eq (a b : Fin 1024) : BitVec.ofNat 32 a.val = BitVec.ofNat 32 b.val ↔ b = a := by
  constructor
  · intro h
    have := congrArg BitVec.toNat h
    have ha := a.isLt
    have hb := b.isLt
    rw [BitVec.toNat_ofNat, BitVec.toNat_ofNat, Nat.mod_eq_of_lt (by omega), Nat.mod_eq_of_lt (by omega)] at this
    exact Fin.ext this.symm
  · rintro rfl; rfl

/-- The truth value of such an equality as a number. -/
theorem hot_word (a b : Fin 1024) :
    FloatOps.uitofp (F := Ideal) .f32 (IntOp.cmpi .eq (BitVec.ofNat 32 a.val) (BitVec.ofNat 32 b.val)) = if b = a then (1 : EReal) else 0 := by
  by_cases h : b = a
  · subst h
    rw [if_pos rfl]
    show ((((IntOp.cmpi .eq (BitVec.ofNat 32 b.val) (BitVec.ofNat 32 b.val)).toNat : ℝ)) : EReal) = 1
    simp [IntOp.cmpi]
  · have h' : ¬ BitVec.ofNat 32 a.val = BitVec.ofNat 32 b.val := fun e => h ((word_eq a b).1 e)
    rw [if_neg h]
    show ((((IntOp.cmpi .eq (BitVec.ofNat 32 a.val) (BitVec.ofNat 32 b.val)).toNat : ℝ)) : EReal) = 0
    simp [IntOp.cmpi, h']

/-- A code's share: the number of rows that chose it over the number of rows. -/
theorem shareOf_apply (ix : IVec S32768 32) (f : Fin 32768 → Fin 1024) (h : ∀ n, ix (ix1 n) = BitVec.ofNat 32 (f n).val) (k : Fin 1024) :
    shareOf (F := Ideal) ix (ix1 k) = Ideal.div (∑ n : Fin 32768, if k = f n then (1 : EReal) else 0) (Ideal.ofBits .f32 0x47000000#32) := by
  pointwise [shareOf]
  simp only [h, hot_word]

/-- The perplexity as a sum over the codes. -/
theorem perpOf_apply (p : FVec Ideal S1024 .f32) (j : S_.Idx) :
    perpOf p j = Ideal.exp (-∑ k : Fin 1024, p (ix1 k) * Ideal.log (p (ix1 k) + Ideal.ofBits .f32 0x2EDBE6FF#32)) := by
  pointwise [perpOf]

/-! ## Scaling -/

/-- Dividing by the number of rows is scaling by its inverse. -/
theorem scale_rows (x : EReal) : x * Ideal.ofBits .f32 0x38000000#32 = Ideal.div x (Ideal.ofBits .f32 0x47000000#32) := by
  have e1 : Ideal.ofBits .f32 0x38000000#32 = (((32768 : ℝ)⁻¹ : ℝ) : EReal) := by
    simp [Ideal.ofBits, Ideal.ieee, -EReal.coe_mul]; norm_num
  have e2 : Ideal.ofBits .f32 0x47000000#32 = ((32768 : ℝ) : EReal) := by
    simp [Ideal.ofBits, Ideal.ieee, -EReal.coe_mul]; norm_num
  rw [e1, e2, Ideal.div_coe (by norm_num), one_div]

/-- Five quarters of a mean is the mean and a quarter of it. -/
theorem scale_loss (s : EReal) :
    Ideal.div (Ideal.ofBits .f32 0x3FA00000#32 * s) (Ideal.ofBits .f32 0x4B000000#32)
      = Ideal.div s (Ideal.ofBits .f32 0x4B000000#32) + Ideal.ofBits .f32 0x3E800000#32 * Ideal.div s (Ideal.ofBits .f32 0x4B000000#32) := by
  have e1 : Ideal.ofBits .f32 0x3FA00000#32 = ((1.25 : ℝ) : EReal) := by
    simp [Ideal.ofBits, Ideal.ieee, -EReal.coe_mul]; norm_num
  have e2 : Ideal.ofBits .f32 0x3E800000#32 = ((0.25 : ℝ) : EReal) := by
    simp [Ideal.ofBits, Ideal.ieee, -EReal.coe_mul]; norm_num
  have e3 : Ideal.ofBits .f32 0x4B000000#32 = ((8388608 : ℝ) : EReal) := by
    simp [Ideal.ofBits, Ideal.ieee, -EReal.coe_mul]
  rw [e1, e2, e3, Ideal.div_coe (by norm_num), Ideal.div_coe (by norm_num), mul_assoc]
  generalize s * (((1 / 8388608 : ℝ) : ℝ) : EReal) = y
  have h : ((1.25 : ℝ) : EReal) = 1 + ((0.25 : ℝ) : EReal) := by
    rw [← EReal.coe_one, ← EReal.coe_add, EReal.coe_eq_coe_iff]
    norm_num
  rw [h, EReal.right_distrib_of_nonneg zero_le_one (EReal.coe_nonneg.2 (by norm_num)), one_mul]

/-! ## The four results -/

section Results
variable (z : FVec Ideal S4x256x8x32x32 .f32) (e : FVec Ideal S1024x256 .f32) (hz : ∀ i, IsReal (z i)) (he : ∀ i, IsReal (e i))

/-- The code the kernel finds nearest to each row. -/
def code (n : Fin 32768) : Fin 1024 := gnear (codeLen e) (codeCols e) (zRows z) n

include hz he

/-- The reference's index of each row is that code. -/
theorem ixOf_apply (n : Fin 32768) : ixOf z e (ix1 n) = BitVec.ofNat 32 (code z e n).val :=
  ix_eq (zFlat z) e (fun i => hz _) he n

/-- The reference's row of each index is the kernel's. -/
theorem take_apply (n : Fin 32768) (c : Fin 256) : takeOf e (ixOf z e) (ix2 n c) = e (ix2 (code z e n) c) :=
  RefIdx.takeOf_apply e _ (code z e) (ixOf_apply z e hz he) n c

/-- The straight-through results agree. -/
theorem through_eq :
    unRows (fun i => zRows z (ix2 (i 0) (i 1)) + gdiff (codeLen e) (codeCols e) e (zRows z) (i 0) (i 1)) = throughOf (qOf z e) z := by
  unfold qOf
  rw [Layout.through_unflat]
  show unflat _ = unflat _
  refine congrArg unflat (funext fun i => ?_)
  show _ = zFlat z i + (takeOf e (ixOf z e) i - zFlat z i)
  have h : takeOf e (ixOf z e) i = e (ix2 (code z e (i 0)) (i 1)) :=
    (congrArg (takeOf e (ixOf z e)) (eq_ix2 i)).trans (take_apply z e hz he (i 0) (i 1))
  rw [h, ← show zFlat z (ix2 (i 0) (i 1)) = zFlat z i from congrArg (zFlat z) (eq_ix2 i).symm]
  rfl

/-- The losses agree. -/
theorem loss_eq (h : Cert.KernelIdeal.S1x1.ShapeCasts Cert.KernelIdeal.S_) :
    shapeCast Cert.KernelIdeal.S_ (Cert.KernelIdeal.Gen.k0_pay2 (F := Ideal) (gssd (codeLen e) (codeCols e) e (zRows z))) h = lossOf (qOf z e) z := by
  funext j
  show Cert.KernelIdeal.Gen.k0_pay2 (F := Ideal) (gssd (codeLen e) (codeCols e) e (zRows z)) (Shape.reshapeEquiv h j)
    = mse (qOf z e) z j + Ideal.ofBits .f32 0x3E800000#32 * mse (qOf z e) z j
  rw [Tile.pay2_apply, scale_loss]
  unfold qOf
  rw [Layout.mse_unflat]
  simp only [take_apply z e hz he]
  rfl

/-- The indices agree. -/
theorem index_eq (h : Cert.KernelIdeal.S32768x1.ShapeCasts Cert.KernelIdeal.S32768) :
    shapeCast Cert.KernelIdeal.S32768 (fun i : Cert.KernelIdeal.S32768x1.Idx => BitVec.ofNat 32 (gnear (codeLen e) (codeCols e) (zRows z) (i 0)).val) h = ixOf z e := by
  funext j
  idx_vars j
  rw [ixOf_apply z e hz he]
  pointwise
  rfl

/-- The perplexities agree. -/
theorem perp_eq (h : Cert.KernelIdeal.S1x1.ShapeCasts Cert.KernelIdeal.S_) :
    shapeCast Cert.KernelIdeal.S_ (Cert.KernelIdeal.Gen.k0_pay3 (F := Ideal) (fun y : Cert.KernelIdeal.S1x1024.Idx => gcnt (codeLen e) (codeCols e) (zRows z) (y 1))) h
      = perpOf (shareOf (ixOf z e)) := by
  funext j
  show Cert.KernelIdeal.Gen.k0_pay3 (F := Ideal) (fun y : Cert.KernelIdeal.S1x1024.Idx => gcnt (codeLen e) (codeCols e) (zRows z) (y 1)) (Shape.reshapeEquiv h j) = _
  rw [Tile.pay3_apply, perpOf_apply, zero_sub]
  simp only [scale_rows, shareOf_apply (ixOf z e) (code z e) (ixOf_apply z e hz he)]
  rfl

end Results

end Cert.Proof.Final

end
-- ==== Proof.Finite.lean ====
/-
  What the precondition says of the two arguments: every element is a real number.
-/
module

public import proofs.«01_k».proof.Proof.Gen.Pre_finite
public import proofs.«01_k».proof.Proof.Dist
public import Idealize.ShloMosaic.Lib.ReduceAll

@[expose] public section

set_option maxRecDepth 16384

noncomputable section

namespace Cert.Proof.Finite

open Cert.Pre_finite Cert.Pre_finite.Gen Idealize.ShloMosaic Cert.Proof.Dist

/-- An element whose absolute value compares below the top is a real number. -/
theorem isReal_of_cmp (x : EReal) (h : FloatOps.cmpf (F := Ideal) (φ := .f32) .olt (max x (-x)) (Ideal.ofBits .f32 0x7F800000#32) = 1#1) : IsReal x := by
  rw [Tile.ofBits_top, Ideal.cmpf_def] at h
  refine isReal_of_abs_lt x ?_
  by_contra hn
  simp [Ideal.cmp, hn] at h

/-- Both conjuncts of the precondition hold where it does. -/
theorem parts (a0 : FVec Ideal S4x256x8x32x32 .f32) (a1 : FVec Ideal S1024x256 .f32) (h : fn (F := Ideal) a0 a1 = fun _ => 1#1) :
    (∀ i, IsReal (a0 i)) ∧ ∀ i, IsReal (a1 i) := by
  have hj := IntOp.andi_eq_one.1 (congrFun h (fun b => b.elim0))
  have : Subsingleton S_.Idx := ⟨fun a b => funext fun x => x.elim0⟩
  exact ⟨fun i => isReal_of_cmp _ (Host.reduce_andi_all _ _ _ _ _ hj.1 i), fun i => isReal_of_cmp _ (Host.reduce_andi_all _ _ _ _ _ hj.2 i)⟩

end Cert.Proof.Finite

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Final
public import proofs.«01_k».proof.Proof.Finite
public import Idealize.ShloMosaic.Adequacy
public import Idealize.ShloMosaic.Init

@[expose] public section

noncomputable section

namespace Cert.Proof

open Idealize.ShloMosaic Idealize.SL.Sem Idealize.ShloMosaic.TcCoe

/-- The reference runs, keeps its arguments and leaves every counter at zero: it has no semaphores. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r =>
      (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run _ _ _).mono (fun r h => ⟨fun c => (h c).2.2.2.2, sem_eq_zero_of_no_sems (by decide) r.2⟩) (Ref.run m g)

section Values
open Cert.KernelIdeal Cert.KernelIdeal.Gen Cert.Proof.Arrays Cert.Proof.KRun

variable (m : (ℓ : Loc nD τ sig) → Buf (Elt Ideal) ℓ) (c : Dev nD)

/-- The first argument's launch contents. -/
abbrev argZ : FVec Ideal S4x256x8x32x32 .f32 := m ((c.tc : Thread nD τ).loc main_arg0)

/-- The second argument's launch contents. -/
abbrev argE : FVec Ideal S1024x256 .f32 := m ((c.tc : Thread nD τ).loc main_arg1)

/-- The region reads the squared lengths of the codes. -/
theorem read0 : B0 m c = codeLen (argE m c) := pre_v4 _

/-- The region reads the scaled codes. -/
theorem read1 : B1 m c = codeCols (argE m c) := pre_v7 _

/-- The region reads the codes. -/
theorem read2 : B2 m c = argE m c := V_main_arg1 m c

/-- The region reads the rows. -/
theorem read3 : B3 m c = zRows (argZ m c) := pre_v1 _

variable (hz : ∀ i, Dist.IsReal (argZ m c i)) (he : ∀ i, Dist.IsReal (argE m c i))
include hz he

/-- The kernel's straight-through result is the reference's. -/
theorem value_through : unRows (G4 m c) = Ref.throughOf (Ref.qOf (argZ m c) (argE m c)) (argZ m c) := by
  unfold G4
  rw [read0, read1, read2, read3]
  exact Final.through_eq _ _ hz he

/-- The kernel's loss is the reference's. -/
theorem value_loss : (shapeCast S_ (k0_pay2 (F := Ideal) (gssd (B0 m c) (B1 m c) (B2 m c) (B3 m c))) shapeCasts_S1x1_S_ : FVec Ideal S_ .f32)
    = Ref.lossOf (Ref.qOf (argZ m c) (argE m c)) (argZ m c) := by
  rw [read0, read1, read2, read3]
  exact Final.loss_eq _ _ hz he _

/-- The kernel's indices are the reference's. -/
theorem value_index : (shapeCast S32768 (G5 m c) shapeCasts_S32768x1_S32768 : IVec S32768 32) = Ref.ixOf (argZ m c) (argE m c) := by
  unfold G5
  rw [read0, read1, read3]
  exact Final.index_eq _ _ hz he _

/-- The kernel's perplexity is the reference's. -/
theorem value_perp : (shapeCast S_ (k0_pay3 (F := Ideal) (fun y : S1x1024.Idx => gcnt (B0 m c) (B1 m c) (B3 m c) (y 1))) shapeCasts_S1x1_S_ : FVec Ideal S_ .f32)
    = Ref.perpOf (F := Ideal) (Ref.shareOf (F := Ideal) (Ref.ixOf (argZ m c) (argE m c))) := by
  rw [read0, read1, read3]
  exact Final.perp_eq _ _ hz he _

end Values

/-- The kernel and the reference end with equal results from memories that agree on finite arguments. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hag
  have hreal := fun c => Finite.parts _ _ (hpre c)
  refine ⟨fun c => Ref.throughOf (Ref.qOf (argZ m c) (argE m c)) (argZ m c), fun c => Ref.lossOf (Ref.qOf (argZ m c) (argE m c)) (argZ m c),
    fun c => Ref.ixOf (argZ m c) (argE m c), fun c => Ref.perpOf (F := Ideal) (Ref.shareOf (F := Ideal) (Ref.ixOf (argZ m c) (argE m c))), ?_, ?_⟩
  · refine (θ_run _ _ _).mono (fun r h c => ?_) (KRun.run m g)
    obtain ⟨h0, h1, h2, h3, h4, h5⟩ := h c
    obtain ⟨hz, he⟩ := hreal c
    exact ⟨h0.trans (value_through m c hz he), h1.trans (value_loss m c hz he), h2.trans (value_index m c hz he),
      h3.trans (value_perp m c hz he), h4, h5⟩
  · refine (θ_run _ _ _).mono (fun r h c => ?_) (Ref.run m' g')
    obtain ⟨e0, e1⟩ := hag c
    obtain ⟨h0, h1, h2, h3, h4, h5⟩ := h c
    rw [e0, e1] at h0 h1 h2 h3
    exact ⟨h0, h1, h2, h3, h4, h5⟩

/-- Everything the certificate claims. -/
theorem claim : Cert.Claim :=
  ⟨Cert.Kernel.Gen.facts, Cert.KernelIdeal.Gen.facts, Cert.ReferenceIdeal.Gen.facts, Cert.Pre_finite.Gen.facts,
    fun m g _ => Cert.Kernel.Gen.frame m g, fun m g _ => Cert.KernelIdeal.Gen.frame m g, fun m g _ => Cert.KernelIdeal.Gen.frame m g,
    fun m g _ => frame_reference m g, fun m g _ => frame_reference m g, trivial, algebraic⟩

end Cert.Proof

end
